-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXRef (m : (ℓ : Loc Cert.QuantXRef.nD Cert.QuantXRef.τ Cert.QuantXRef.sig) → Buf (Elt Bits) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXRef [hQuantXRef : Cert.QuantXRef.Facts] : Prop :=
  ∀ (m : (ℓ : Loc Cert.QuantXRef.nD Cert.QuantXRef.τ Cert.QuantXRef.sig) → Buf (Elt Bits) ℓ) (g : Dev Cert.QuantXRef.nD → PrngReg), Pre_QuantXRef m →
    θ_run (Cert.QuantXRef.defs (F := Bits)) (onTc (τ := Cert.QuantXRef.τ) (Cert.QuantXRef.main (F := Bits))) ⟨m, fun _ => 0, g⟩ (fun r => (∀ c : Dev Cert.QuantXRef.nD,
      r.2.mem ((c.tc : Thread Cert.QuantXRef.nD Cert.QuantXRef.τ).loc Cert.QuantXRef.main_arg0) = m ((c.tc : Thread Cert.QuantXRef.nD Cert.QuantXRef.τ).loc Cert.QuantXRef.main_arg0))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v86) = v0 c
          ∧ r.2.mem ((c.tc : Thread Cert.GateUpRefIdeal.nD Cert.GateUpRefIdeal.τ).loc Cert.GateUpRefIdeal.main_v89) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v64) = v0 c
          ∧ r.2.mem ((c.tc : Thread Cert.DownRefIdeal.nD Cert.DownRefIdeal.τ).loc Cert.DownRefIdeal.main_v26_0) = v1 c
          ∧ r.2.mem ((c.tc : Thread Cert.DownRefIdeal.nD Cert.DownRefIdeal.τ).loc Cert.DownRefIdeal.main_v19) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hQuantX : Cert.QuantX.Facts) (hQuantXRef : Cert.QuantXRef.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_QuantX (hQuantX := hQuantX)
    ∧ quiescent_QuantXRef (hQuantXRef := hQuantXRef)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== GateUp.lean ====
abbrev S1536x6144 : Shape := ⟨2, ![1536, 6144]⟩
abbrev S1536x1 : Shape := ⟨2, ![1536, 1]⟩
abbrev S3072x32768 : Shape := ⟨2, ![3072, 32768]⟩
abbrev S48x32768 : Shape := ⟨2, ![48, 32768]⟩
abbrev S1536x16384 : Shape := ⟨2, ![1536, 16384]⟩
abbrev S1536x128 : Shape := ⟨2, ![1536, 128]⟩
abbrev S3072x256 : Shape := ⟨2, ![3072, 256]⟩
abbrev S48x256 : Shape := ⟨2, ![48, 256]⟩
abbrev S1536x256 : Shape := ⟨2, ![1536, 256]⟩
abbrev S6144x256 : Shape := ⟨2, ![6144, 256]⟩
abbrev S64x256 : Shape := ⟨2, ![64, 256]⟩
abbrev S1x256 : Shape := ⟨2, ![1, 256]⟩
abbrev S128x256 : Shape := ⟨2, ![128, 256]⟩

abbrev nBuf : Space → Nat
  | .hbm => 6
  | .vmem => 16
  | .smem => 0
  | _ => 0

abbrev bufTy : (tb : Table) → Fin (tcTables nBuf tb) → BufTy
  | .hbm, ⟨0, _⟩ => ⟨S1536x6144, .fp8e4m3⟩
  | .hbm, ⟨1, _⟩ => ⟨S1536x1, .f32⟩
  | .hbm, ⟨2, _⟩ => ⟨S3072x32768, .i8⟩
  | .hbm, ⟨3, _⟩ => ⟨S48x32768, .f32⟩
  | .hbm, ⟨4, _⟩ => ⟨S1536x16384, .f32⟩
  | .hbm, ⟨5, _⟩ => ⟨S1536x128, .f32⟩
  | .local _ .vmem, ⟨0, _⟩ => ⟨S1536x6144, .fp8e4m3⟩
  | .local _ .vmem, ⟨1, _⟩ => ⟨S1536x1, .f32⟩
  | .local _ .vmem, ⟨2, _⟩ => ⟨S3072x256, .i8⟩
  | .local _ .vmem, ⟨3, _⟩ => ⟨S3072x256, .i8⟩
  | .local _ .vmem, ⟨4, _⟩ => ⟨S3072x256, .i8⟩
  | .local _ .vmem, ⟨5, _⟩ => ⟨S3072x256, .i8⟩
  | .local _ .vmem, ⟨6, _⟩ => ⟨S48x256, .f32⟩
  | .local _ .vmem, ⟨7, _⟩ => ⟨S48x256, .f32⟩
  | .local _ .vmem, ⟨8, _⟩ => ⟨S48x256, .f32⟩
  | .local _ .vmem, ⟨9, _⟩ => ⟨S48x256, .f32⟩
  | .local _ .vmem, ⟨10, _⟩ => ⟨S1536x256, .f32⟩
  | .local _ .vmem, ⟨11, _⟩ => ⟨S1536x256, .f32⟩
  | .local _ .vmem, ⟨12, _⟩ => ⟨S1536x128, .f32⟩
  | .local _ .vmem, ⟨13, _⟩ => ⟨S1536x6144, .bf16⟩
  | .local _ .vmem, ⟨14, _⟩ => ⟨S6144x256, .bf16⟩
  | .local _ .vmem, ⟨15, _⟩ => ⟨S6144x256, .bf16⟩
  | _, _ => ⟨S1536x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpRefIdeal.lean ====
abbrev S1536x6144 : Shape := ⟨2, ![1536, 6144]⟩
abbrev S1536x1 : Shape := ⟨2, ![1536, 1]⟩
abbrev S3072x32768 : Shape := ⟨2, ![3072, 32768]⟩
abbrev S48x32768 : Shape := ⟨2, ![48, 32768]⟩
abbrev S3072x16384 : Shape := ⟨2, ![3072, 16384]⟩
abbrev S48x16384 : Shape := ⟨2, ![48, 16384]⟩
abbrev S1536x3072x2 : Shape := ⟨3, ![1536, 3072, 2]⟩
abbrev S_ : Shape := ⟨0, ![]⟩
abbrev S48x1x16384 : Shape := ⟨3, ![48, 1, 16384]⟩
abbrev S48x64x16384 : Shape := ⟨3, ![48, 64, 16384]⟩
abbrev S1536x3072x1 : Shape := ⟨3, ![1536, 3072, 1]⟩
abbrev S1536x3072 : Shape := ⟨2, ![1536, 3072]⟩
abbrev S1536x16384 : Shape := ⟨2, ![1536, 16384]⟩
abbrev S1536x128x128 : Shape := ⟨3, ![1536, 128, 128]⟩
abbrev S1536x128 : Shape := ⟨2, ![1536, 128]⟩

abbrev nBuf : Space → Nat
  | .hbm => 111
  | .vmem => 2
  | .smem => 0
  | _ => 0

abbrev bufTy : (tb : Table) → Fin (tcTables nBuf tb) → BufTy
  | .hbm, ⟨0, _⟩ => ⟨S1536x6144, .fp8e4m3⟩
  | .hbm, ⟨1, _⟩ => ⟨S1536x1, .f32⟩
  | .hbm, ⟨2, _⟩ => ⟨S3072x32768, .i8⟩
  | .hbm, ⟨3, _⟩ => ⟨S48x32768, .f32⟩
  | .hbm, ⟨4, _⟩ => ⟨S1536x6144, .bf16⟩
  | .hbm, ⟨5, _⟩ => ⟨S3072x16384, .i8⟩
  | .hbm, ⟨6, _⟩ => ⟨S48x16384, .f32⟩
  | .hbm, ⟨7, _⟩ => ⟨S1536x3072x2, .bf16⟩
  | .hbm, ⟨8, _⟩ => ⟨S3072x16384, .i32⟩
  | .hbm, ⟨9, _⟩ => ⟨S_, .i32⟩
  | .hbm, ⟨10, _⟩ => ⟨S3072x16384, .i32⟩
  | .hbm, ⟨11, _⟩ => ⟨S3072x16384, .i32⟩
  | .hbm, ⟨12, _⟩ => ⟨S_, .i32⟩
  | .hbm, ⟨13, _⟩ => ⟨S3072x16384, .i32⟩
  | .hbm, ⟨14, _⟩ => ⟨S3072x16384, .i32⟩
  | .hbm, ⟨15, _⟩ => ⟨S_, .i32⟩
  | .hbm, ⟨16, _⟩ => ⟨S3072x16384, .i32⟩
  | .hbm, ⟨17, _⟩ => ⟨S3072x16384, .i32⟩
  | .hbm, ⟨18, _⟩ => ⟨S_, .i32⟩
  | .hbm, ⟨19, _⟩ => ⟨S3072x16384, .i32⟩
  | .hbm, ⟨20, _⟩ => ⟨S3072x16384, .i32⟩
  | .hbm, ⟨21, _⟩ => ⟨S_, .i32⟩
  | .hbm, ⟨22, _⟩ => ⟨S3072x16384, .i32⟩
  | .hbm, ⟨23, _⟩ => ⟨S3072x16384, .i32⟩
  | .hbm, ⟨24, _⟩ => ⟨S_, .i32⟩
  | .hbm, ⟨25, _⟩ => ⟨S3072x16384, .i32⟩
  | .hbm, ⟨26, _⟩ => ⟨S3072x16384, .i32⟩
  | .hbm, ⟨27, _⟩ => ⟨S_, .i32⟩
  | .hbm, ⟨28, _⟩ => ⟨S3072x16384, .i32⟩
  | .hbm, ⟨29, _⟩ => ⟨S3072x16384, .i32⟩
  | .hbm, ⟨30, _⟩ => ⟨S3072x16384, .bf16⟩
  | .hbm, ⟨31, _⟩ => ⟨S3072x16384, .bf16⟩
  | .hbm, ⟨32, _⟩ => ⟨S48x16384, .bf16⟩
  | .hbm, ⟨33, _⟩ => ⟨S48x1x16384, .bf16⟩
  | .hbm, ⟨34, _⟩ => ⟨S48x64x16384, .bf16⟩
  | .hbm, ⟨35, _⟩ => ⟨S48x64x16384, .bf16⟩
  | .hbm, ⟨36, _⟩ => ⟨S48x64x16384, .bf16⟩
  | .hbm, ⟨37, _⟩ => ⟨S3072x16384, .bf16⟩
  | .hbm, ⟨38, _⟩ => ⟨S48x64x16384, .bf16⟩
  | .hbm, ⟨39, _⟩ => ⟨S48x64x16384, .bf16⟩
  | .hbm, ⟨40, _⟩ => ⟨S48x64x16384, .bf16⟩
  | .hbm, ⟨41, _⟩ => ⟨S3072x16384, .bf16⟩
  | .hbm, ⟨42, _⟩ => ⟨S1536x3072x1, .bf16⟩
  | .hbm, ⟨43, _⟩ => ⟨S1536x3072, .bf16⟩
  | .hbm, ⟨44, _⟩ => ⟨S1536x16384, .f32⟩
  | .hbm, ⟨45, _⟩ => ⟨S1536x3072x1, .bf16⟩
  | .hbm, ⟨46, _⟩ => ⟨S1536x3072, .bf16⟩
  | .hbm, ⟨47, _⟩ => ⟨S1536x16384, .f32⟩
  | .hbm, ⟨48, _⟩ => ⟨S1536x16384, .f32⟩
  | .hbm, ⟨49, _⟩ => ⟨S1536x16384, .f32⟩
  | .hbm, ⟨50, _⟩ => ⟨S1536x16384, .f32⟩
  | .hbm, ⟨51, _⟩ => ⟨S3072x16384, .i8⟩
  | .hbm, ⟨52, _⟩ => ⟨S48x16384, .f32⟩
  | .hbm, ⟨53, _⟩ => ⟨S1536x3072x2, .bf16⟩
  | .hbm, ⟨54, _⟩ => ⟨S3072x16384, .i32⟩
  | .hbm, ⟨55, _⟩ => ⟨S_, .i32⟩
  | .hbm, ⟨56, _⟩ => ⟨S3072x16384, .i32⟩
  | .hbm, ⟨57, _⟩ => ⟨S3072x16384, .i32⟩
  | .hbm, ⟨58, _⟩ => ⟨S_, .i32⟩
  | .hbm, ⟨59, _⟩ => ⟨S3072x16384, .i32⟩
  | .hbm, ⟨60, _⟩ => ⟨S3072x16384, .i32⟩
  | .hbm, ⟨61, _⟩ => ⟨S_, .i32⟩
  | .hbm, ⟨62, _⟩ => ⟨S3072x16384, .i32⟩
  | .hbm, ⟨63, _⟩ => ⟨S3072x16384, .i32⟩
  | .hbm, ⟨64, _⟩ => ⟨S_, .i32⟩
  | .hbm, ⟨65, _⟩ => ⟨S3072x16384, .i32⟩
  | .hbm, ⟨66, _⟩ => ⟨S3072x16384, .i32⟩
  | .hbm, ⟨67, _⟩ => ⟨S_, .i32⟩
  | .hbm, ⟨68, _⟩ => ⟨S3072x16384, .i32⟩
  | .hbm, ⟨69, _⟩ => ⟨S3072x16384, .i32⟩
  | .hbm, ⟨70, _⟩ => ⟨S_, .i32⟩
  | .hbm, ⟨71, _⟩ => ⟨S3072x16384, .i32⟩
  | .hbm, ⟨72, _⟩ => ⟨S3072x16384, .i32⟩
  | .hbm, ⟨73, _⟩ => ⟨S_, .i32⟩
  | .hbm, ⟨74, _⟩ => ⟨S3072x16384, .i32⟩
  | .hbm, ⟨75, _⟩ => ⟨S3072x16384, .i32⟩
  | .hbm, ⟨76, _⟩ => ⟨S3072x16384, .bf16⟩
  | .hbm, ⟨77, _⟩ => ⟨S3072x16384, .bf16⟩
  | .hbm, ⟨78, _⟩ => ⟨S48x16384, .bf16⟩
  | .hbm, ⟨79, _⟩ => ⟨S48x1x16384, .bf16⟩
  | .hbm, ⟨80, _⟩ => ⟨S48x64x16384, .bf16⟩
  | .hbm, ⟨81, _⟩ => ⟨S48x64x16384, .bf16⟩
  | .hbm, ⟨82, _⟩ => ⟨S48x64x16384, .bf16⟩
  | .hbm, ⟨83, _⟩ => ⟨S3072x16384, .bf16⟩
  | .hbm, ⟨84, _⟩ => ⟨S48x64x16384, .bf16⟩
  | .hbm, ⟨85, _⟩ => ⟨S48x64x16384, .bf16⟩
  | .hbm, ⟨86, _⟩ => ⟨S48x64x16384, .bf16⟩
  | .hbm, ⟨87, _⟩ => ⟨S3072x16384, .bf16⟩
  | .hbm, ⟨88, _⟩ => ⟨S1536x3072x1, .bf16⟩
  | .hbm, ⟨89, _⟩ => ⟨S1536x3072, .bf16⟩
  | .hbm, ⟨90, _⟩ => ⟨S1536x16384, .f32⟩
  | .hbm, ⟨91, _⟩ => ⟨S1536x3072x1, .bf16⟩
  | .hbm, ⟨92, _⟩ => ⟨S1536x3072, .bf16⟩
  | .hbm, ⟨93, _⟩ => ⟨S1536x16384, .f32⟩
  | .hbm, ⟨94, _⟩ => ⟨S1536x16384, .f32⟩
  | .hbm, ⟨95, _⟩ => ⟨S1536x16384, .f32⟩
  | .hbm, ⟨96, _⟩ => ⟨S1536x16384, .f32⟩
  | .hbm, ⟨97, _⟩ => ⟨S1536x16384, .f32⟩
  | .hbm, ⟨98, _⟩ => ⟨S1536x16384, .f32⟩
  | .hbm, ⟨99, _⟩ => ⟨S_, .f32⟩
  | .hbm, ⟨100, _⟩ => ⟨S1536x16384, .f32⟩
  | .hbm, ⟨101, _⟩ => ⟨S1536x16384, .f32⟩
  | .hbm, ⟨102, _⟩ => ⟨S_, .f32⟩
  | .hbm, ⟨103, _⟩ => ⟨S1536x16384, .f32⟩
  | .hbm, ⟨104, _⟩ => ⟨S1536x16384, .f32⟩
  | .hbm, ⟨105, _⟩ => ⟨S1536x16384, .f32⟩
  | .hbm, ⟨106, _⟩ => ⟨S1536x16384, .f32⟩
  | .hbm, ⟨107, _⟩ => ⟨S1536x16384, .f32⟩
  | .hbm, ⟨108, _⟩ => ⟨S1536x128x128, .f32⟩
  | .hbm, ⟨109, _⟩ => ⟨S_, .f32⟩
  | .hbm, ⟨110, _⟩ => ⟨S1536x128, .f32⟩
  | .local _ .vmem, ⟨0, _⟩ => ⟨S1536x6144, .fp8e4m3⟩
  | .local _ .vmem, ⟨1, _⟩ => ⟨S1536x6144, .bf16⟩
  | _, _ => ⟨S1536x6144, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_c_10 : Ref sig .tc := ⟨.hbm, 67, rfl⟩
abbrev main_v52 : Ref sig .tc := ⟨.hbm, 68, rfl⟩
abbrev main_v53 : Ref sig .tc := ⟨.hbm, 69, rfl⟩
abbrev main_c_11 : Ref sig .tc := ⟨.hbm, 70, rfl⟩
abbrev main_v54 : Ref sig .tc := ⟨.hbm, 71, rfl⟩
abbrev main_v55 : Ref sig .tc := ⟨.hbm, 72, rfl⟩
abbrev main_c_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst : Ref sig .tc := ⟨.hbm, 99, rfl⟩
abbrev main_v81 : Ref sig .tc := ⟨.hbm, 100, rfl⟩
abbrev main_v82 : Ref sig .tc := ⟨.hbm, 101, rfl⟩
abbrev main_cst_13 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_14 : Ref sig .tc := ⟨.hbm, 109, rfl⟩
abbrev main_v89 : Ref sig .tc := ⟨.hbm, 110, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Down.lean ====
abbrev S1536x16384 : Shape := ⟨2, ![1536, 16384]⟩
abbrev S1536x128 : Shape := ⟨2, ![1536, 128]⟩
abbrev S8192x6144 : Shape := ⟨2, ![8192, 6144]⟩
abbrev S128x6144 : Shape := ⟨2, ![128, 6144]⟩
abbrev S32x4x6144 : Shape := ⟨3, ![32, 4, 6144]⟩
abbrev S1536x6144 : Shape := ⟨2, ![1536, 6144]⟩
abbrev S1536x1 : Shape := ⟨2, ![1536, 1]⟩
abbrev S1536x512 : Shape := ⟨2, ![1536, 512]⟩
abbrev S256x3072 : Shape := ⟨2, ![256, 3072]⟩
abbrev S1x4x3072 : Shape := ⟨3, ![1, 4, 3072]⟩
abbrev S1536x3072 : Shape := ⟨2, ![1536, 3072]⟩
abbrev S512x3072 : Shape := ⟨2, ![512, 3072]⟩
abbrev S1536 : Shape := ⟨1, ![1536]⟩
abbrev S64x3072 : Shape := ⟨2, ![64, 3072]⟩
abbrev S4x3072 : Shape := ⟨2, ![4, 3072]⟩
abbrev S1x3072 : Shape := ⟨2, ![1, 3072]⟩
abbrev S128x3072 : Shape := ⟨2, ![128, 3072]⟩

abbrev nBuf : Space → Nat
  | .hbm => 8
  | .vmem => 15
  | .smem => 0
  | _ => 0

abbrev bufTy : (tb : Table) → Fin (tcTables nBuf tb) → BufTy
  | .hbm, ⟨0, _⟩ => ⟨S1536x16384, .f32⟩
  | .hbm, ⟨1, _⟩ => ⟨S1536x128, .f32⟩
  | .hbm, ⟨2, _⟩ => ⟨S8192x6144, .i8⟩
  | .hbm, ⟨3, _⟩ => ⟨S128x6144, .f32⟩
  | .hbm, ⟨4, _⟩ => ⟨S32x4x6144, .f32⟩
  | .hbm, ⟨5, _⟩ => ⟨S1536x6144, .bf16⟩
  | .hbm, ⟨6, _⟩ => ⟨S1536x16384, .fp8e4m3⟩
  | .hbm, ⟨7, _⟩ => ⟨S1536x1, .f32⟩
  | .local _ .vmem, ⟨0, _⟩ => ⟨S1536x512, .f32⟩
  | .local _ .vmem, ⟨1, _⟩ => ⟨S1536x512, .f32⟩
  | .local _ .vmem, ⟨2, _⟩ => ⟨S1536x128, .f32⟩
  | .local _ .vmem, ⟨3, _⟩ => ⟨S256x3072, .i8⟩
  | .local _ .vmem, ⟨4, _⟩ => ⟨S256x3072, .i8⟩
  | .local _ .vmem, ⟨5, _⟩ => ⟨S1x4x3072, .f32⟩
  | .local _ .vmem, ⟨6, _⟩ => ⟨S1x4x3072, .f32⟩
  | .local _ .vmem, ⟨7, _⟩ => ⟨S1536x3072, .bf16⟩
  | .local _ .vmem, ⟨8, _⟩ => ⟨S1536x3072, .bf16⟩
  | .local _ .vmem, ⟨9, _⟩ => ⟨S1536x512, .fp8e4m3⟩
  | .local _ .vmem, ⟨10, _⟩ => ⟨S1536x512, .fp8e4m3⟩
  | .local _ .vmem, ⟨11, _⟩ => ⟨S1536x1, .f32⟩
  | .local _ .vmem, ⟨12, _⟩ => ⟨S1536x3072, .f32⟩
  | .local _ .vmem, ⟨13, _⟩ => ⟨S512x3072, .bf16⟩
  | .local _ .vmem, ⟨14, _⟩ => ⟨S1536x1, .f32⟩
  | _, _ => ⟨S1536x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v109 : BitVec 1 := Scalar.cmpi .eq arg1 c31_i32
  let v110 : BitVec 32 := Scalar.extui v109
  let c0_i32_55 : BitVec 32 := 0#32
  let v111 : BitVec 1 := Scalar.cmpi .ne v110 c0_i32_55
  v111

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x3072 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1536x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DownRefIdeal.lean ====
abbrev S1536x16384 : Shape := ⟨2, ![1536, 16384]⟩
abbrev S1536x128 : Shape := ⟨2, ![1536, 128]⟩
abbrev S8192x6144 : Shape := ⟨2, ![8192, 6144]⟩
abbrev S128x6144 : Shape := ⟨2, ![128, 6144]⟩
abbrev S_ : Shape := ⟨0, ![]⟩
abbrev S1536 : Shape := ⟨1, ![1536]⟩
abbrev S1536x1 : Shape := ⟨2, ![1536, 1]⟩
abbrev S1536x8192x2 : Shape := ⟨3, ![1536, 8192, 2]⟩
abbrev S128x1x6144 : Shape := ⟨3, ![128, 1, 6144]⟩
abbrev S128x64x6144 : Shape := ⟨3, ![128, 64, 6144]⟩
abbrev S1536x8192x1 : Shape := ⟨3, ![1536, 8192, 1]⟩
abbrev S1536x8192 : Shape := ⟨2, ![1536, 8192]⟩
abbrev S1536x6144 : Shape := ⟨2, ![1536, 6144]⟩

abbrev nBuf : Space → Nat
  | .hbm => 95
  | .vmem => 3
  | .smem => 0
  | _ => 0

abbrev bufTy : (tb : Table) → Fin (tcTables nBuf tb) → BufTy
  | .hbm, ⟨0, _⟩ => ⟨S1536x16384, .f32⟩
  | .hbm, ⟨1, _⟩ => ⟨S1536x128, .f32⟩
  | .hbm, ⟨2, _⟩ => ⟨S8192x6144, .i8⟩
  | .hbm, ⟨3, _⟩ => ⟨S128x6144, .f32⟩
  | .hbm, ⟨4, _⟩ => ⟨S_, .f32⟩
  | .hbm, ⟨5, _⟩ => ⟨S1536, .f32⟩
  | .hbm, ⟨6, _⟩ => ⟨S1536x1, .f32⟩
  | .hbm, ⟨7, _⟩ => ⟨S_, .f32⟩
  | .hbm, ⟨8, _⟩ => ⟨S1536x1, .f32⟩
  | .hbm, ⟨9, _⟩ => ⟨S1536x1, .f32⟩
  | .hbm, ⟨10, _⟩ => ⟨S1536x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1536x1, .f32⟩
  | .hbm, ⟨15, _⟩ => ⟨S1536x1, .f32⟩
  | .hbm, ⟨16, _⟩ => ⟨S1536x1, .f32⟩
  | .hbm, ⟨17, _⟩ => ⟨S_, .f32⟩
  | .hbm, ⟨18, _⟩ => ⟨S1536x1, .f32⟩
  | .hbm, ⟨19, _⟩ => ⟨S1536x1, .f32⟩
  | .hbm, ⟨20, _⟩ => ⟨S_, .f32⟩
  | .hbm, ⟨21, _⟩ => ⟨S1536x1, .f32⟩
  | .hbm, ⟨22, _⟩ => ⟨S1536x1, .i1⟩
  | .hbm, ⟨23, _⟩ => ⟨S_, .f32⟩
  | .hbm, ⟨24, _⟩ => ⟨S1536x1, .f32⟩
  | .hbm, ⟨25, _⟩ => ⟨S1536x1, .i1⟩
  | .hbm, ⟨26, _⟩ => ⟨S1536x1, .i1⟩
  | .hbm, ⟨27, _⟩ => ⟨S_, .f32⟩
  | .hbm, ⟨28, _⟩ => ⟨S_, .f32⟩
  | .hbm, ⟨29, _⟩ => ⟨S1536x1, .f32⟩
  | .hbm, ⟨30, _⟩ => ⟨S1536x1, .f32⟩
  | .hbm, ⟨31, _⟩ => ⟨S_, .f32⟩
  | .hbm, ⟨32, _⟩ => ⟨S1536x1, .f32⟩
  | .hbm, ⟨33, _⟩ => ⟨S1536x1, .f32⟩
  | .hbm, ⟨34, _⟩ => ⟨S1536x1, .f32⟩
  | .hbm, ⟨35, _⟩ => ⟨S_, .f32⟩
  | .hbm, ⟨36, _⟩ => ⟨S1536x1, .f32⟩
  | .hbm, ⟨37, _⟩ => ⟨S1536x1, .f32⟩
  | .hbm, ⟨38, _⟩ => ⟨S1536x16384, .f32⟩
  | .hbm, ⟨39, _⟩ => ⟨S1536x16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1536x16384, .f32⟩
  | .hbm, ⟨44, _⟩ => ⟨S1536x16384, .f32⟩
  | .hbm, ⟨45, _⟩ => ⟨S_, .f32⟩
  | .hbm, ⟨46, _⟩ => ⟨S1536x16384, .f32⟩
  | .hbm, ⟨47, _⟩ => ⟨S1536x16384, .f32⟩
  | .hbm, ⟨48, _⟩ => ⟨S1536x16384, .fp8e4m3⟩
  | .hbm, ⟨49, _⟩ => ⟨S1536x16384, .bf16⟩
  | .hbm, ⟨50, _⟩ => ⟨S1536x8192x2, .bf16⟩
  | .hbm, ⟨51, _⟩ => ⟨S8192x6144, .i32⟩
  | .hbm, ⟨52, _⟩ => ⟨S_, .i32⟩
  | .hbm, ⟨53, _⟩ => ⟨S8192x6144, .i32⟩
  | .hbm, ⟨54, _⟩ => ⟨S8192x6144, .i32⟩
  | .hbm, ⟨55, _⟩ => ⟨S_, .i32⟩
  | .hbm, ⟨56, _⟩ => ⟨S8192x6144, .i32⟩
  | .hbm, ⟨57, _⟩ => ⟨S8192x6144, .i32⟩
  | .hbm, ⟨58, _⟩ => ⟨S_, .i32⟩
  | .hbm, ⟨59, _⟩ => ⟨S8192x6144, .i32⟩
  | .hbm, ⟨60, _⟩ => ⟨S8192x6144, .i32⟩
  | .hbm, ⟨61, _⟩ => ⟨S_, .i32⟩
  | .hbm, ⟨62, _⟩ => ⟨S8192x6144, .i32⟩
  | .hbm, ⟨63, _⟩ => ⟨S8192x6144, .i32⟩
  | .hbm, ⟨64, _⟩ => ⟨S_, .i32⟩
  | .hbm, ⟨65, _⟩ => ⟨S8192x6144, .i32⟩
  | .hbm, ⟨66, _⟩ => ⟨S8192x6144, .i32⟩
  | .hbm, ⟨67, _⟩ => ⟨S_, .i32⟩
  | .hbm, ⟨68, _⟩ => ⟨S8192x6144, .i32⟩
  | .hbm, ⟨69, _⟩ => ⟨S8192x6144, .i32⟩
  | .hbm, ⟨70, _⟩ => ⟨S_, .i32⟩
  | .hbm, ⟨71, _⟩ => ⟨S8192x6144, .i32⟩
  | .hbm, ⟨72, _⟩ => ⟨S8192x6144, .i32⟩
  | .hbm, ⟨73, _⟩ => ⟨S8192x6144, .bf16⟩
  | .hbm, ⟨74, _⟩ => ⟨S8192x6144, .bf16⟩
  | .hbm, ⟨75, _⟩ => ⟨S128x6144, .bf16⟩
  | .hbm, ⟨76, _⟩ => ⟨S128x1x6144, .bf16⟩
  | .hbm, ⟨77, _⟩ => ⟨S128x64x6144, .bf16⟩
  | .hbm, ⟨78, _⟩ => ⟨S128x64x6144, .bf16⟩
  | .hbm, ⟨79, _⟩ => ⟨S128x64x6144, .bf16⟩
  | .hbm, ⟨80, _⟩ => ⟨S8192x6144, .bf16⟩
  | .hbm, ⟨81, _⟩ => ⟨S128x64x6144, .bf16⟩
  | .hbm, ⟨82, _⟩ => ⟨S128x64x6144, .bf16⟩
  | .hbm, ⟨83, _⟩ => ⟨S128x64x6144, .bf16⟩
  | .hbm, ⟨84, _⟩ => ⟨S8192x6144, .bf16⟩
  | .hbm, ⟨85, _⟩ => ⟨S1536x8192x1, .bf16⟩
  | .hbm, ⟨86, _⟩ => ⟨S1536x8192, .bf16⟩
  | .hbm, ⟨87, _⟩ => ⟨S1536x6144, .f32⟩
  | .hbm, ⟨88, _⟩ => ⟨S1536x8192x1, .bf16⟩
  | .hbm, ⟨89, _⟩ => ⟨S1536x8192, .bf16⟩
  | .hbm, ⟨90, _⟩ => ⟨S1536x6144, .f32⟩
  | .hbm, ⟨91, _⟩ => ⟨S1536x6144, .f32⟩
  | .hbm, ⟨92, _⟩ => ⟨S1536x6144, .f32⟩
  | .hbm, ⟨93, _⟩ => ⟨S1536x6144, .f32⟩
  | .hbm, ⟨94, _⟩ => ⟨S1536x6144, .bf16⟩
  | .local _ .vmem, ⟨0, _⟩ => ⟨S1536x16384, .f32⟩
  | .local _ .vmem, ⟨1, _⟩ => ⟨S1536x16384, .fp8e4m3⟩
  | .local _ .vmem, ⟨2, _⟩ => ⟨S1536x16384, .bf16⟩
  | _, _ => ⟨S1536x16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_cst_9 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_c_11 : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_v36 : Ref sig .tc := ⟨.hbm, 63, rfl⟩
abbrev main_c_13 : Ref sig .tc := ⟨.hbm, 64, rfl⟩
abbrev main_v37 : Ref sig .tc := ⟨.hbm, 65, rfl⟩
abbrev main_v38 : Ref sig .tc := ⟨.hbm, 66, rfl⟩
abbrev main_c_14 : Ref sig .tc := ⟨.hbm, 67, rfl⟩
abbrev main_v39 : Ref sig .tc := ⟨.hbm, 68, rfl⟩
abbrev main_v40 : Ref sig .tc := ⟨.hbm, 69, rfl⟩
abbrev main_c_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantX.lean ====
abbrev S2x768x6144 : Shape := ⟨3, ![2, 768, 6144]⟩
abbrev S1536x6144 : Shape := ⟨2, ![1536, 6144]⟩
abbrev S1536x1 : Shape := ⟨2, ![1536, 1]⟩
abbrev S256x6144 : Shape := ⟨2, ![256, 6144]⟩
abbrev S256x1 : Shape := ⟨2, ![256, 1]⟩
abbrev S256 : Shape := ⟨1, ![256]⟩

abbrev nBuf : Space → Nat
  | .hbm => 4
  | .vmem => 6
  | .smem => 0
  | _ => 0

abbrev bufTy : (tb : Table) → Fin (tcTables nBuf tb) → BufTy
  | .hbm, ⟨0, _⟩ => ⟨S2x768x6144, .bf16⟩
  | .hbm, ⟨1, _⟩ => ⟨S1536x6144, .bf16⟩
  | .hbm, ⟨2, _⟩ => ⟨S1536x6144, .fp8e4m3⟩
  | .hbm, ⟨3, _⟩ => ⟨S1536x1, .f32⟩
  | .local _ .vmem, ⟨0, _⟩ => ⟨S256x6144, .bf16⟩
  | .local _ .vmem, ⟨1, _⟩ => ⟨S256x6144, .bf16⟩
  | .local _ .vmem, ⟨2, _⟩ => ⟨S256x6144, .fp8e4m3⟩
  | .local _ .vmem, ⟨3, _⟩ => ⟨S256x6144, .fp8e4m3⟩
  | .local _ .vmem, ⟨4, _⟩ => ⟨S256x1, .f32⟩
  | .local _ .vmem, ⟨5, _⟩ => ⟨S256x1, .f32⟩
  | _, _ => ⟨S2x768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantXRef.lean ====
abbrev S2x768x6144 : Shape := ⟨3, ![2, 768, 6144]⟩
abbrev S1536x6144 : Shape := ⟨2, ![1536, 6144]⟩
abbrev S1536x1 : Shape := ⟨2, ![1536, 1]⟩
abbrev S1536 : Shape := ⟨1, ![1536]⟩

abbrev nBuf : Space → Nat
  | .hbm => 4
  | .vmem => 3
  | .smem => 0
  | _ => 0

abbrev bufTy : (tb : Table) → Fin (tcTables nBuf tb) → BufTy
  | .hbm, ⟨0, _⟩ => ⟨S2x768x6144, .bf16⟩
  | .hbm, ⟨1, _⟩ => ⟨S1536x6144, .bf16⟩
  | .hbm, ⟨2, _⟩ => ⟨S1536x6144, .fp8e4m3⟩
  | .hbm, ⟨3, _⟩ => ⟨S1536x1, .f32⟩
  | .local _ .vmem, ⟨0, _⟩ => ⟨S1536x6144, .bf16⟩
  | .local _ .vmem, ⟨1, _⟩ => ⟨S1536x6144, .fp8e4m3⟩
  | .local _ .vmem, ⟨2, _⟩ => ⟨S1536x1, .f32⟩
  | _, _ => ⟨S2x768x6144, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S1536x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.DownIdeal.Runs.lean ====
/- What the runs of the down kernel share: the conditions of the body over the points, where its windows are idle, and
   the staging and scratch memrefs. The pipeline is at (n, k), 2 by 32 points: case A is k = 0, case C is k = 31, case B the
   others. Window 6, the scale, is stored at case A alone, read at case C and written back after the last point. -/
module

public import proofs.«01_k».proof.Proof.Gen.DownIdeal.Launch
public import proofs.«01_k».proof.Proof.Gen.DownIdeal.Skeleton
public import proofs.«01_k».proof.Proof.Gen.DownIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Gen.DownIdeal.Frame

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 31 (mod 32) — by arithmetic of the point. -/
theorem hcond0_1 : ∀ t : Fin cfg0.N, cond0_1 (grid0.coords t) ↔ t.val % 32 = 31 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 5 is never idle (an output stored at every point, under no condition). -/
theorem liveAt0_5 : ∀ t : Fin cfg0.N, cfg0.idle 5 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x8000000000000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 idle: the case reads it and stores nothing into it. -/
theorem idleAt0_6_C : ∀ t : Fin cfg0.N, ¬cond0_0 (grid0.coords t) → cond0_1 (grid0.coords t) → cfg0.idle 6 (grid0.coords t) = true := by decide +kernel
/-- At the points of case C, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_C : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

/-- One staging buffer of output window 4, through which its contents are stated (`View.read_writes_of_cover`: the
    choice does not matter). -/
abbrev VO0_4 : View sig .tc .vmem S1536x3072 .bf16 := (Memref.whole cc0_stg4_0 : Memref sig .tc .vmem S1536x3072 .bf16).view
/-- One staging buffer of output window 5, through which its contents are stated (`View.read_writes_of_cover`: the
    choice does not matter). -/
abbrev VO0_5 : View sig .tc .vmem S1536x512 .fp8e4m3 := (Memref.whole cc0_stg5_0 : Memref sig .tc .vmem S1536x512 .fp8e4m3).view
/-- One staging buffer of output window 6, through which its contents are stated (`View.read_writes_of_cover`: the
    choice does not matter). -/
abbrev VO0_6 : View sig .tc .vmem S1536x1 .f32 := (Memref.whole cc0_stg6_0 : Memref sig .tc .vmem S1536x1 .f32).view
/-- Each window's current staging memref at point `t`, spelled as the pipeline passes it (`bodyAt0`), and its wholeness. -/
abbrev ms0_0 (t : Fin cfg0.N) : Memref sig .tc .vmem S1536x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x3072 .f32 := Memref.whole cc0_scratch0
abbrev scM0_1 : Memref sig .tc .vmem S512x3072 .bf16 := Memref.whole cc0_scratch1
abbrev scM0_2 : Memref sig .tc .vmem S1536x1 .f32 := Memref.whole cc0_scratch2
/-- The scratch `arg9` the kernel carries between points, as a view: what it holds is stated through it. -/
abbrev VS0_0 : View sig .tc .vmem S1536x3072 .f32 := scM0_0.view
/-- The scratch `arg11` the kernel carries between points, as a view: what it holds is stated through it. -/
abbrev VS0_2 : View sig .tc .vmem S1536x1 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.DownIdeal.Gen

end
-- ==== Proof.DownIdeal.RunA.lean ====
/- The run of the down kernel's body in case A, over the skeleton: the pieces that each buffer ends with. -/
module

public import proofs.«01_k».proof.Proof.DownIdeal.Runs

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) :
    Σ' (L4 : List (View.Piece (Elt F) S1536x3072 .bf16)), Σ' (L5 : List (View.Piece (Elt F) S1536x512 .fp8e4m3)), Σ' (L6 : List (View.Piece (Elt F) S1536x1 .f32)), Σ' (LS0 : List (View.Piece (Elt F) S1536x3072 .f32)), Σ' (LS2 : List (View.Piece (Elt F) S1536x1 .f32)), { LT1 : List (View.Piece (Elt F) S512x3072 .bf16) //
      ∀ (xi4 : Vec F S1536x3072 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨[], ?_, ?_, ?_, ?_, ?_, fun xi4 E K => ?run⟩
  case run =>
    simp only [cc0_down_eq_skeleton]; unfold cc0_down_skel
    simp only [k0_part3_eq_skeleton, k0_part1_eq_skeleton, k0_part2_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.DownIdeal.Gen

end
-- ==== Proof.DownIdeal.RunB.lean ====
/- The run of the down kernel's body in case B, over the skeleton: the pieces that each buffer ends with. -/
module

public import proofs.«01_k».proof.Proof.DownIdeal.RunA

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 60 of 64), WITH the
    proof that on whole staging memrefs — the inputs' at their contents, the outputs it leaves idle (4, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) :
    Σ' (L4 : List (View.Piece (Elt F) S1536x3072 .bf16)), Σ' (L5 : List (View.Piece (Elt F) S1536x512 .fp8e4m3)), Σ' (L6 : List (View.Piece (Elt F) S1536x1 .f32)), Σ' (LS0 : List (View.Piece (Elt F) S1536x3072 .f32)), Σ' (LS2 : List (View.Piece (Elt F) S1536x1 .f32)), { LT1 : List (View.Piece (Elt F) S512x3072 .bf16) //
      ∀ (xi4 : Vec F S1536x3072 .bf16) (xi6 : Vec F S1536x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xi6 ∗ owns (c : Thread nD τ) arg9 fullShare xs0 ∗ (∃ d, owns (c : Thread nD τ) arg10 fullShare d) ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ owns (c : Thread nD τ) arg11 fullShare xs2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨[], ?_, [], ?_, [], ?_, fun xi4 xi6 E K => ?run⟩
  case run =>
    simp only [cc0_down_eq_skeleton]; unfold cc0_down_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0; obtain rfl := harg11.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexists _; iexact HS0
    isplitl [HS1]; · iexists _; iexact HS1
    iexists _; isplitr; · ipureintro; exact harg11.read_unread _
    iexact HS2

end Cert.DownIdeal.Gen

end
-- ==== Proof.DownIdeal.RunC.lean ====
/- The run of the down kernel's body in case C, over the skeleton: the pieces that each buffer ends with. -/
module

public import proofs.«01_k».proof.Proof.DownIdeal.RunB

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31, 63), WITH the
    proof that on whole staging memrefs — the inputs' at their contents, the output it reads and does not store into (6) at its running contents `xo6`, handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) :
    Σ' (L4 : List (View.Piece (Elt F) S1536x3072 .bf16)), Σ' (L5 : List (View.Piece (Elt F) S1536x512 .fp8e4m3)), Σ' (L6 : List (View.Piece (Elt F) S1536x1 .f32)), Σ' (LS0 : List (View.Piece (Elt F) S1536x3072 .f32)), Σ' (LS2 : List (View.Piece (Elt F) S1536x1 .f32)), { LT1 : List (View.Piece (Elt F) S512x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo6 ∗ owns (c : Thread nD τ) arg9 fullShare xs0 ∗ (∃ d, owns (c : Thread nD τ) arg10 fullShare d) ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xo6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ owns (c : Thread nD τ) arg11 fullShare xs2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, ?_, [], ?_, [], ?_, fun E K => ?run⟩
  case run =>
    simp only [cc0_down_eq_skeleton]; unfold cc0_down_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hfs0; obtain rfl := harg11.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [HS0]; · iexists _; iexact HS0
    isplitl [HS1]; · iexists _; iexact HS1
    iexists _; isplitr; · ipureintro; exact harg11.read_unread _
    iexact HS2

end Cert.DownIdeal.Gen

end
-- ==== Proof.DownIdeal.Frame.lean ====
/- The frame of the down kernel: what its buffers hold after each point, the body's obligation at a generic point, the run
   of @main and its frame. -/
module

public import Idealize.ShloMosaic.Lib.Claim
public import proofs.«01_k».proof.Proof.DownIdeal.RunC

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) : Vec F S1536x3072 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- Case A's pieces for output 5 tile its block (1 store of `S1536x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) (y : S1536x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.1 S1536x512.size (by sl_kernel_rfl) y

/-- What case A leaves in output 5's staging buffer: its pieces read back over junk. -/
def out0_A_5 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) : Vec F S1536x512 .fp8e4m3 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- Case A's pieces for output 6 tile its block (1 store of `S1536x1`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) (y : S1536x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S1536x1.size (by sl_kernel_rfl) y

/-- What case A leaves in output 6's staging buffer: its pieces read back over junk. -/
def out0_A_6 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) : Vec F S1536x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch `arg9`, which the kernel carries between points, cover it: 2 pieces of `S1536x3072` tiling it (Lib/Ring.lean `Piece.tiledL`). -/
theorem scover0_A_0 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) (y : S1536x3072.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S1536x3072.size (by sl_kernel_rfl) y

/-- What case A leaves in scratch `arg9`: its pieces read back over junk. -/
def sout0_A_0 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) : Vec F S1536x3072 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch `arg11`, which the kernel carries between points, cover it: 1 piece of `S1536x1` tiling it (Lib/Ring.lean `Piece.tiledL`). -/
theorem scover0_A_2 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) (y : S1536x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S1536x1.size (by sl_kernel_rfl) y

/-- What case A leaves in scratch `arg11`: its pieces read back over junk. -/
def sout0_A_2 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : cond0_0 i) (hc1 : ¬cond0_1 i)
    (x0 : Vec F S1536x512 .f32) (x1 : Vec F S1536x128 .f32) (x2 : Vec F S256x3072 .i8) (x3 : Vec F S1x4x3072 .f32) : Vec F S1536x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) : Vec F S1536x3072 .bf16 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs2).1)

/-- Case B's pieces for output 5 tile its block (1 store of `S1536x512`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) (y : S1536x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs2).2.1 S1536x512.size (by sl_kernel_rfl) y

/-- What case B leaves in output 5's staging buffer: its pieces read back over junk. -/
def out0_B_5 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) : Vec F S1536x512 .fp8e4m3 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs2).2.1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_6 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) (xo6 : Vec F S1536x1 .f32) : Vec F S1536x1 .f32 := xo6

/-- Case B's pieces for scratch `arg9`, which the kernel carries between points, cover it: 1 piece of `S1536x3072` tiling it (Lib/Ring.lean `Piece.tiledL`). -/
theorem scover0_B_0 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) (y : S1536x3072.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs2).2.2.2.1 S1536x3072.size (by sl_kernel_rfl) y

/-- What case B leaves in scratch `arg9`: its pieces read back over junk. -/
def sout0_B_0 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) : Vec F S1536x3072 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs2).2.2.2.1)

/-- Case B stores nothing into scratch `arg11`: it holds what the point before left. -/
def sout0_B_2 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : ¬cond0_1 i)
    (x0 : Vec F S1536x512 .f32) (x1 : Vec F S1536x128 .f32) (x2 : Vec F S256x3072 .i8) (x3 : Vec F S1x4x3072 .f32) (xs0 : Vec F S1536x3072 .f32) (xs2 : Vec F S1536x1 .f32) : Vec F S1536x1 .f32 := xs2

/-- Case C's pieces for output 4 tile its block (1 store of `S1536x3072`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) (y : S1536x3072.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xo6 xs0 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xo6 xs0 xs2).1 S1536x3072.size (by sl_kernel_rfl) y

/-- What case C leaves in output 4's staging buffer: its pieces read back over junk. -/
def out0_C_4 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) : Vec F S1536x3072 .bf16 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xo6 xs0 xs2).1)

/-- Case C's pieces for output 5 tile its block (1 store of `S1536x512`, checked by the kernel's evaluation: Lib/Ring.lean `Piece.tiledL`, linear in the pieces, through a loop's `@[irreducible]` trip theorem too), so they cover it. -/
theorem cover0_C_5 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) (y : S1536x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xo6 xs0 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xo6 xs0 xs2).2.1 S1536x512.size (by sl_kernel_rfl) y

/-- What case C leaves in output 5's staging buffer: its pieces read back over junk. -/
def out0_C_5 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) : Vec F S1536x512 .fp8e4m3 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xo6 xs0 xs2).2.1)

/-- What case C leaves in output 6's staging buffer: what it found there, since it stores nothing into it. -/
def out0_C_6 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) : Vec F S1536x1 .f32 :=
  xo6

/-- Case C's pieces for scratch `arg9`, which the kernel carries between points, cover it: 1 piece of `S1536x3072` tiling it (Lib/Ring.lean `Piece.tiledL`). -/
theorem scover0_C_0 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) (y : S1536x3072.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xo6 xs0 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xo6 xs0 xs2).2.2.2.1 S1536x3072.size (by sl_kernel_rfl) y

/-- What case C leaves in scratch `arg9`: its pieces read back over junk. -/
def sout0_C_0 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) : Vec F S1536x3072 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xo6 xs0 xs2).2.2.2.1)

/-- Case C stores nothing into scratch `arg11`: it holds what the point before left. -/
def sout0_C_2 (c : Dev nD) (i : grid0.Coords) (arg2 : Memref sig .tc .vmem S1536x512 .f32) (harg2 : arg2.IsWhole) (arg3 : Memref sig .tc .vmem S1536x128 .f32) (harg3 : arg3.IsWhole) (arg4 : Memref sig .tc .vmem S256x3072 .i8) (harg4 : arg4.IsWhole) (arg5 : Memref sig .tc .vmem S1x4x3072 .f32) (harg5 : arg5.IsWhole) (arg6 : Memref sig .tc .vmem S1536x3072 .bf16) (harg6 : arg6.IsWhole) (arg7 : Memref sig .tc .vmem S1536x512 .fp8e4m3) (harg7 : arg7.IsWhole) (arg8 : Memref sig .tc .vmem S1536x1 .f32) (harg8 : arg8.IsWhole) (arg9 : Memref sig .tc .vmem S1536x3072 .f32) (harg9 : arg9.IsWhole) (arg10 : Memref sig .tc .vmem S512x3072 .bf16) (harg10 : arg10.IsWhole) (arg11 : Memref sig .tc .vmem S1536x1 .f32) (harg11 : arg11.IsWhole) (hc0 : ¬cond0_0 i) (hc1 : cond0_1 i)
    (x0 : Vec F S1536x512 .f32) (x1 : Vec F S1536x128 .f32) (x2 : Vec F S256x3072 .i8) (x3 : Vec F S1x4x3072 .f32) (xo6 : Vec F S1536x1 .f32) (xs0 : Vec F S1536x3072 .f32) (xs2 : Vec F S1536x1 .f32) : Vec F S1536x1 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1536x3072 .bf16 × Vec F S1536x512 .fp8e4m3 × Vec F S1536x1 .f32 × Vec F S1536x3072 .f32 × Vec F S1536x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by have hN : n + 1 < 64 := lt_of_lt_of_eq hn (show cfg0.N = 64 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ (∃ d, owns (c : Thread nD τ) scM0_1 fullShare d) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ (∃ d, owns (c : Thread nD τ) scM0_1 fullShare d) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ (∃ d, owns (c : Thread nD τ) scM0_1 fullShare d) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 64 := lt_of_lt_of_eq t.isLt (show cfg0.N = 64 from N_0)
  rw [after0_6, after0_6]
  by_cases h0 : t.val % 32 = 0
  · by_cases h1 : t.val % 32 = 31
    · exfalso; omega
    · rw [liveAt0_6_A t ((hcond0_0 t).mpr h0) (fun h => h1 ((hcond0_1 t).mp h))] at hi
      exact absurd hi Bool.false_ne_true
  · by_cases h1 : t.val % 32 = 31
    · rw [outsAt0_C m c t h0 h1]
      dsimp only
      unfold out0_C_6
      rfl
    · rw [outsAt0_B m c t h0 h1]
      dsimp only
      unfold out0_B_6
      rfl
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 32 = 0) (h1 : t.val % 32 = 31) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_C t (fun h => h0 ((hcond0_0 t).mp h)) ((hcond0_1 t).mpr h1)]; exact Bool.false_ne_true)]
  dsimp only [dats]

/-- At a point of case C the body hands output 6's buffer back as it found it, which is what the pipeline asks: before the
    last point the window is idle and not written back; at the last point it is idle and written back, and what is written
    is what the buffer carried. -/
theorem leaves0_6_C (c : Dev nD) (t : Fin cfg0.N) (h0 : ¬t.val % 32 = 0) (h1 : t.val % 32 = 31) :
    owns (c : Thread nD τ) (ms0_6 t) fullShare ((outsAt0 m c (t.val - 1) (Nat.lt_of_le_of_lt (Nat.sub_le _ _) t.isLt)).2.2.1)
      ⊢ (dats m 0 c).leavesExact 6 t := by
  have hidle := idleAt0_6_C t (fun h => h0 ((hcond0_0 t).mp h)) ((hcond0_1 t).mpr h1)
  cases hf : (cfg0.win 6).flush t with
  | false =>
    rw [Dat.leavesExact_idle (dats m 0 c) 6 t hidle hf]
    simp only [before0_6_C m c t h0 h1]
    iintro H
    iexists ((dats m 0 c).after 6 t)
    iexact H
  | true =>
    rw [show (dats m 0 c).leavesExact 6 t = owns (c : Thread nD τ) (ms0_6 t) fullShare ((dats m 0 c).after 6 t) from by
      unfold Dat.leavesExact; rw [hidle, hf], after0_6, outsAt0_C m c t h0 h1]
    exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      by_cases hz : t.val = 0
      · rw [PhiS_castSucc m c t, PhiS_zero m c _ _ hz, PhiA0_eq]
        rw [outsAt0_A m c t h0 h1]
        unfold out0_A_5 out0_A_6 sout0_A_0 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, H4, ⟨%e5, H5⟩, ⟨%e6, H6⟩, ⟨%es0, HS0⟩, ⟨%fT1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _ _ _ _ _)
      · rw [PhiS_castSucc m c t, PhiS_pos m c _ _ hz]
        rw [outsAt0_A m c t h0 h1]
        unfold out0_A_5 out0_A_6 sout0_A_0 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexists _; iexact HS0
        isplitl [HS1]; · iexact HS1
        isplitl [HS2]; · iexists _; iexact HS2
        iintro ⟨H0, H1, H2, H3, H4, ⟨%e5, H5⟩, ⟨%e6, H6⟩, ⟨%es0, HS0⟩, ⟨%fT1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _ _ _ _ _)
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        simp only [before0_6_C m c t h0 h1]
        unfold out0_C_4 out0_C_5 sout0_C_0 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HS0]; · iexact HS0
        isplitl [HS1]; · iexact HS1
        isplitl [HS2]; · iexact HS2
        iintro ⟨H0, H1, H2, H3, ⟨%e4, H4⟩, ⟨%e5, H5⟩, H6, ⟨%es0, HS0⟩, ⟨%fT1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            isplitl [HS1]
            · iexists _; unfold owns; iexists _; isplitr
              swap; · iexact HS1
              ipureintro; rfl
            iexact HS2
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _)
        iapply (leaves0_6_C m c t h0 h1)
        iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_5 sout0_B_0 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        isplitl [HS2]; · iexact HS2
        iintro ⟨H0, H1, H2, H3, H4, ⟨%e5, H5⟩, H6, ⟨%es0, HS0⟩, ⟨%fT1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · iexists _; unfold owns; iexists _; isplitr
              swap; · iexact HS1
              ipureintro; rfl
            iexact HS2
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _)
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DownIdeal.Gen

end
-- ==== Proof.DownFrame.lean ====
/- The frame of the down kernel as printed, from the frame of its ideal program, which has the same text. -/
module

public import proofs.«01_k».proof.Proof.DownIdeal.Frame
public import proofs.«01_k».proof.Proof.Gen.Down.Frame

@[expose] public section

noncomputable section

namespace Cert.Proof

open Idealize.ShloMosaic

variable {F : FTy → Type} [FloatOps F]

/-- The two programs have the same body table: it has one entry, and its text is the same. -/
theorem down_bodies : Cert.Down.defs₀ (F := F) = Cert.DownIdeal.defs₀ (F := F) := by
  unfold Cert.Down.defs₀ Cert.DownIdeal.defs₀
  refine congrArg Defs.onTc ?_
  funext l a
  match l, a with
  | ⟨0, _⟩, (t, s) => rfl

/-- So they have the same table with the pipeline's own entries added. -/
theorem down_defs : Cert.Down.defs (F := F) = Cert.DownIdeal.defs (F := F) := by
  unfold Cert.Down.defs Cert.DownIdeal.defs
  rw [down_bodies]
  rfl

/-- The frame of the down kernel at any floats: its program is the ideal program's text. -/
theorem down_frame (m : (ℓ : Loc Cert.Down.nD Cert.Down.τ Cert.Down.sig) → Buf (Elt F) ℓ) (ρ : Dev Cert.Down.nD → PrngReg) :
    θ_run Cert.Down.defs (onTc (τ := Cert.Down.τ) (Cert.Down.main (F := F))) ⟨m, fun _ => 0, ρ⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0) := by
  rw [down_defs]
  exact Cert.DownIdeal.Gen.frame m ρ

end Cert.Proof

end
-- ==== Proof.Int4.lean ====
/-
  Hand-written, untrusted. Four-bit weights, and how one packed byte becomes two bfloat16 values.

  A byte holds two codes: the low half is the weight of the even row, the high half the weight of the odd row. A code `n` stands for
  the integer `(n xor 8) - 8`. The kernels build both values at once inside a 32-bit word: they spread the two halves of the byte to the
  two halves of the word, flip bit 3 of each and put the exponent bits of the bfloat16 number 128 above them, so each half of the word
  reads as `128 + (n xor 8)`; subtracting 136 leaves the integer. Read as exact numbers this is what the reference computes with
  integer operations.
-/
module

public import Idealize.ShloMosaic.Lib.BitcastPair
public import Idealize.ShloMosaic.Lib.Pointwise.Tactic
public import Idealize.ShloMosaic.Lib.ValueIdx

@[expose] public section

set_option maxRecDepth 16384

noncomputable section

namespace Cert.Int4

open Idealize.ShloMosaic

/-- The integer a four-bit code stands for: the code in the low (`p = 0`) or the high half of the byte. -/
def code (q : BitVec 8) (p : ℕ) : ℤ := ((((q.toNat / 16 ^ p) % 16) ^^^ 8 : ℕ) : ℤ) - 8

/-- The word the kernels build from a byte. -/
def word (q : BitVec 8) : BitVec 32 :=
  ((((q.setWidth 32) <<< 12) ||| q.setWidth 32) &&& 983055#32) ^^^ 1124614920#32

/-- Each half of the word is the bit pattern `0x4300 + (n xor 8)`. -/
theorem word_halves : ∀ q : BitVec 8, ∀ p : Fin 2, ∃ n : Fin 16,
    (word q).extractLsb' (16 * p.val) 16 = BitVec.ofNat 16 (0x4300 + n.val) ∧ code q p.val = (n.val : ℤ) - 8 := by
  decide +kernel

/-- Read as a bfloat16 number, the bit pattern `0x4300 + n` is `128 + n`. -/
theorem ofBits_word (n : Fin 16) :
    Ideal.ofBits .bf16 (BitVec.ofNat 16 (0x4300 + n.val)) = ((128 + (n.val : ℝ) : ℝ) : EReal) := by
  fin_cases n <;> simp [Ideal.ofBits, Ideal.ieee, -EReal.coe_mul, -EReal.coe_add] <;> first | done | norm_num

theorem ofBits_136 : Ideal.ofBits .bf16 0x4308#16 = ((136 : ℝ) : EReal) := by
  simp [Ideal.ofBits, Ideal.ieee, -EReal.coe_mul]

/-- What the kernels read from half `p` of the word, 136 subtracted: the code's integer. -/
theorem word_value (q : BitVec 8) (p : Fin 2) :
    Ideal.ofBits .bf16 ((word q).extractLsb' (16 * p.val) 16) - Ideal.ofBits .bf16 0x4308#16 = ((code q p.val : ℝ) : EReal) := by
  obtain ⟨n, h1, h2⟩ := word_halves q p
  rw [h1, h2, ofBits_word, ofBits_136, ← EReal.coe_sub]
  congr 1; push_cast; ring

/-- The reference's integer operations on the low half. -/
theorem reference_low : ∀ q : BitVec 8, ((((q.setWidth 32) &&& 15#32) ^^^ 8#32) - 8#32).toInt = code q 0 := by
  decide +kernel

/-- The reference's integer operations on the high half. -/
theorem reference_high : ∀ q : BitVec 8, (((((q.setWidth 32).sshiftRight 4) &&& 15#32) ^^^ 8#32) - 8#32).toInt = code q 1 := by
  decide +kernel

/-! ## One block of 64 packed rows -/

variable {F : FTy → Type} [FloatOps F]

/-- The kernels' dequantised block: 64 packed rows of codes and one row of scales, 128 rows of weights. -/
def block (n : ℕ) (hb : (⟨2, ![64, n]⟩ : Shape).Bitcasts 32 ⟨2, ![128, n]⟩ 16) (hs : (⟨2, ![1, n]⟩ : Shape).Broadcasts ⟨2, ![128, n]⟩)
    (q : Vec F ⟨2, ![64, n]⟩ .i8) (s : Vec F ⟨2, ![1, n]⟩ .f32) : FVec F ⟨2, ![128, n]⟩ .bf16 :=
  mulf (subf (bitcastToFloat .bf16 (bitcast ⟨2, ![128, n]⟩ 16
      (xori (andi (ori (shli (extui 32 q (by decide)) (broadcast _ 12#32)) (extui 32 q (by decide))) (broadcast _ 983055#32)) (broadcast _ 1124614920#32)
        : IVec ⟨2, ![64, n]⟩ 32) hb)) (broadcast _ (Scalar.ofBits .bf16 0x4308#16)))
    (broadcastTo ⟨2, ![128, n]⟩ (truncf .bf16 s (by decide)) hs)

/-- Over the exact numbers: row `r` is the code of packed row `r / 2` (its low half when `r` is even), times the column's scale. -/
theorem block_apply (n : ℕ) (hb : (⟨2, ![64, n]⟩ : Shape).Bitcasts 32 ⟨2, ![128, n]⟩ 16) (hs : (⟨2, ![1, n]⟩ : Shape).Broadcasts ⟨2, ![128, n]⟩)
    (q : Vec Ideal ⟨2, ![64, n]⟩ .i8) (s : Vec Ideal ⟨2, ![1, n]⟩ .f32) (r : Fin 128) (c : Fin n) :
    block (F := Ideal) n hb hs q s (ix2 r c)
      = ((code (q (ix2 ⟨r.val / 2, by omega⟩ c)) (r.val % 2) : ℝ) : EReal) * s (ix2 0 c) := by
  have e := word_value (q (ix2 ⟨r.val / 2, by omega⟩ c)) ⟨r.val % 2, by omega⟩
  rw [← e]
  show (Ideal.ofBits .bf16 (bitcast ⟨2, ![128, n]⟩ 16 _ hb (ix2 r c)) - Ideal.ofBits .bf16 0x4308#16)
    * (broadcastTo ⟨2, ![128, n]⟩ (truncf (φ := .f32) .bf16 s (by decide) : FVec Ideal ⟨2, ![1, n]⟩ .bf16) hs (ix2 r c)) = _
  rw [bitcast_32_16]
  have es : broadcastTo ⟨2, ![128, n]⟩ (truncf (φ := .f32) .bf16 s (by decide) : FVec Ideal ⟨2, ![1, n]⟩ .bf16) hs (ix2 r c) = s (ix2 0 c) := by
    refine congrArg s (funext fun a => Fin.ext ?_)
    match a with
    | ⟨0, _⟩ => rfl
    | ⟨1, _⟩ =>
      show (if h1 : n = 1 then (⟨0, by omega⟩ : Fin n) else ⟨c.val, c.isLt⟩ : Fin n).val = c.val
      split
      · rename_i h; subst h; omega
      · rfl
  have ei : hb.srcIdx (ix2 r c) ((Shape.row (⟨2, ![128, n]⟩ : Shape) (ix2 r c)) / 2)
      (fun a ha => by have := hb.pos_lt (ix2 r c) 0 (by decide) a ha; omega) = ix2 ⟨r.val / 2, by omega⟩ c := by
    funext a; apply Fin.ext
    match a with
    | ⟨0, _⟩ => rfl
    | ⟨1, _⟩ => rfl
  rw [es, ei]
  rfl

end Cert.Int4

end
-- ==== Proof.Rows.lean ====
/-
  Hand-written, untrusted. The dequantised weights as one array, and the piece-by-piece way the kernels fill it.
-/
module

public import proofs.«01_k».proof.Proof.Int4
public import Idealize.ShloMosaic.Lib.Pipeline.Value
public import Idealize.ShloMosaic.Lib.Ring

@[expose] public section

set_option maxRecDepth 16384

noncomputable section

namespace Cert.Int4

open Idealize.ShloMosaic

/-- Row `k` of the dequantised weights: half `k mod 2` of packed row `k / 2`, times the scale of group `k / 128`. -/
def rows {N R S n : ℕ} (hR : N = 2 * R) (hS : N = 128 * S) (q : Vec Ideal ⟨2, ![R, n]⟩ .i8) (s : Vec Ideal ⟨2, ![S, n]⟩ .f32) :
    (⟨2, ![N, n]⟩ : Shape).Idx → EReal := fun y =>
  ((code (q (ix2 ⟨(y 0).val / 2, by have h : (y 0).val < N := (y 0).isLt; omega⟩ (y 1))) ((y 0).val % 2) : ℝ) : EReal)
    * s (ix2 ⟨(y 0).val / 128, by have h : (y 0).val < N := (y 0).isLt; omega⟩ (y 1))

/-- One stored block of the scratch, group `g`'s 128 rows, holds those rows of the array. -/
theorem piece {N R S n : ℕ} (hR : N = 2 * R) (hS : N = 128 * S) (q : Vec Ideal ⟨2, ![R, n]⟩ .i8) (s : Vec Ideal ⟨2, ![S, n]⟩ .f32)
    (g o oq : ℕ) (ho : o = 128 * g) (hoq : oq = 64 * g)
    (hi : ∀ a, (![o, 0] : Fin 2 → ℕ) a + (⟨2, ![128, n]⟩ : Shape).size a ≤ (⟨2, ![N, n]⟩ : Shape).size a)
    (hq : ∀ a, (![oq, 0] : Fin 2 → ℕ) a + (⟨2, ![64, n]⟩ : Shape).size a ≤ (⟨2, ![R, n]⟩ : Shape).size a)
    (hs : ∀ a, (![g, 0] : Fin 2 → ℕ) a + (⟨2, ![1, n]⟩ : Shape).size a ≤ (⟨2, ![S, n]⟩ : Shape).size a)
    (hb : (⟨2, ![64, n]⟩ : Shape).Bitcasts 32 ⟨2, ![128, n]⟩ 16) (hbr : (⟨2, ![1, n]⟩ : Shape).Broadcasts ⟨2, ![128, n]⟩)
    (hc : (⟨2, ![128, n]⟩ : Shape).ShapeCasts ⟨2, ![128, n]⟩) (w : (⟨2, ![128, n]⟩ : Shape).Idx → EReal)
    (hw : w = shapeCast ⟨2, ![128, n]⟩ (block (F := Ideal) n hb hbr
      (View.ld (Val := Elt Ideal) (e' := .i8) q (Rect.unit ![oq, 0] (⟨2, ![64, n]⟩ : Shape).size hq))
      (View.ld (Val := Elt Ideal) (e' := .f32) s (Rect.unit ![g, 0] (⟨2, ![1, n]⟩ : Shape).size hs))) hc) :
    ∀ x, w x = rows hR hS q s ((Rect.unit (s := ⟨2, ![N, n]⟩) ![o, 0] (⟨2, ![128, n]⟩ : Shape).size hi).emb x) := by
  intro x
  obtain ⟨r, c, rfl⟩ : ∃ (r : Fin 128) (c : Fin n), x = ix2 r c := ⟨x 0, x 1, eq_ix2 x⟩
  have hr := r.isLt
  subst ho hoq
  rw [hw, shapeCast_self]
  refine (block_apply n hb hbr _ _ r c).trans ?_
  have e0 : ∀ y : (⟨2, ![N, n]⟩ : Shape).Idx, (y 0).val = 128 * g + r.val → y 1 = c →
      ∀ (h1 : 64 * g + r.val / 2 < R) (h2 : g < S), ((code (q (ix2 ⟨64 * g + r.val / 2, h1⟩ c)) (r.val % 2) : ℝ) : EReal)
        * s (ix2 ⟨g, h2⟩ c) = rows hR hS q s y := by
    intro y h0 h1 _ _
    unfold rows
    have a1 : (y 0).val / 2 = 64 * g + r.val / 2 := by omega
    have a2 : (y 0).val / 128 = g := by omega
    have a3 : (y 0).val % 2 = r.val % 2 := by omega
    rw [h1]
    simp only [a1, a2, a3]
  have hR' : 64 * g + 64 ≤ R := hq 0
  have hS' : g + 1 ≤ S := hs 0
  refine Eq.trans ?_ (e0 _ ?_ ?_ (by omega) (by omega))
  · congr 1
    · refine congrArg (fun z : BitVec 8 => ((code z (r.val % 2) : ℝ) : EReal)) (congrArg q (funext fun a => Fin.ext ?_))
      match a with
      | ⟨0, _⟩ => show 64 * g + 1 * (r.val / 2) = 64 * g + r.val / 2; omega
      | ⟨1, _⟩ => show 0 + 1 * c.val = c.val; omega
    · refine congrArg s (funext fun a => Fin.ext ?_)
      match a with
      | ⟨0, _⟩ => show g + 1 * 0 = g; omega
      | ⟨1, _⟩ => show 0 + 1 * c.val = c.val; omega
  · show 128 * g + 1 * r.val = _; omega
  · apply Fin.ext; show 0 + 1 * c.val = _; omega

end Cert.Int4

end
-- ==== Proof.GateUpBlock.lean ====
/-
  Hand-written, untrusted. What one grid point of the gate-and-up kernel computes.
-/
module

public import proofs.«01_k».proof.Proof.Gen.GateUpIdeal.Frame
public import proofs.«01_k».proof.Proof.Rows

@[expose] public section

set_option maxRecDepth 65536

noncomputable section

namespace Cert.GateUp

open Cert.GateUpIdeal Cert.GateUpIdeal.Gen Idealize.ShloMosaic Idealize.ShloMosaic.TcCoe Idealize.SL.Sem

/-- One half's weights at a grid point, dequantised. -/
abbrev weights (q : Vec Ideal S3072x256 .i8) (s : Vec Ideal S48x256 .f32) : S6144x256.Idx → EReal :=
  Int4.rows (N := 6144) (R := 3072) (S := 48) (n := 256) rfl rfl q s

/-- One stored block of a weight scratch, the 128 rows from `o`, holds those rows of the weights. -/
theorem piece (q : Vec Ideal S3072x256 .i8) (s : Vec Ideal S48x256 .f32) (o : ℕ)
    (hi : ∀ a, (![o, 0] : Fin 2 → ℕ) a + S128x256.size a ≤ S6144x256.size a) (ho : o = 128 * (o / 128))
    (hq : ∀ a, (![o / 2, 0] : Fin 2 → ℕ) a + S64x256.size a ≤ S3072x256.size a)
    (hs : ∀ a, (![o / 128, 0] : Fin 2 → ℕ) a + S1x256.size a ≤ S48x256.size a)
    (w : S128x256.Idx → EReal)
    (hw : w = shapeCast S128x256 (Int4.block (F := Ideal) 256 bitcasts_S64x256_w32_S128x256_w16 broadcasts_S1x256_S128x256
      (View.ld (Val := Elt Ideal) (e' := .i8) q (Rect.unit ![o / 2, 0] S64x256.size hq))
      (View.ld (Val := Elt Ideal) (e' := .f32) s (Rect.unit ![o / 128, 0] S1x256.size hs))) shapeCasts_S128x256_S128x256) :
    ∀ x, w x = weights q s ((Rect.unit (s := S6144x256) ![o, 0] S128x256.size hi).emb x) :=
  Int4.piece rfl rfl q s (o / 128) o (o / 2) ho (by omega) hi hq hs _ _ _ w hw

theorem pieces1_A (c : Dev nD) (arg3 : Memref sig .tc .vmem S3072x256 .i8) (harg3 : arg3.IsWhole) (arg5 : Memref sig .tc .vmem S48x256 .f32) (harg5 : arg5.IsWhole)
    (x2 : Vec Ideal S3072x256 .i8) (x4 : Vec Ideal S48x256 .f32) :
    ∀ p ∈ kernelRun0_A.sl.HS1_48 (F := Ideal) c arg3 harg3 arg5 harg5 x2 x4, ∀ x,
      p.2 x = weights (arg3.view.read (Elt Ideal) (harg3.unread x2)) (arg5.view.read (Elt Ideal) (harg5.unread x4)) (p.1.emb x) := by
  unfold kernelRun0_A.sl.HS1_48
  iterate 48
    refine List.forall_mem_cons.2 ⟨piece _ _ _ (by decide) (by decide) (by decide) (by decide) _ ?_, ?_⟩
    · rfl
  exact fun p hp => absurd hp List.not_mem_nil

/-- Case A: what the matmul reads of weight scratch 1 is the dequantised weights. -/
theorem v1829_A (c : Dev nD) (arg3 : Memref sig .tc .vmem S3072x256 .i8) (harg3 : arg3.IsWhole) (arg5 : Memref sig .tc .vmem S48x256 .f32) (harg5 : arg5.IsWhole)
    (arg10 : Memref sig .tc .vmem S6144x256 .bf16) (x2 : Vec Ideal S3072x256 .i8) (x4 : Vec Ideal S48x256 .f32) :
    kernelRun0_A.sl.v1829 (F := Ideal) c arg3 harg3 arg5 harg5 arg10 x2 x4 = weights x2 x4 := by
  have hc : ∀ y, ∃ p ∈ kernelRun0_A.sl.HS1_48 (F := Ideal) c arg3 harg3 arg5 harg5 x2 x4, y ∈ p.1.set :=
    View.cover_of_tiledL _ S128x256.size (by sl_kernel_rfl)
  unfold kernelRun0_A.sl.v1829
  rw [View.readCov_eq_canon_ld _ _ _ hc, View.ld_unit_zero (by decide)]
  funext y
  refine (View.canon_apply_of_pieces _ _ (pieces1_A c arg3 harg3 arg5 harg5 x2 x4) y (hc y)).trans ?_
  rw [harg3.read_unread, harg5.read_unread]

theorem pieces2_A (c : Dev nD) (arg4 : Memref sig .tc .vmem S3072x256 .i8) (harg4 : arg4.IsWhole) (arg6 : Memref sig .tc .vmem S48x256 .f32) (harg6 : arg6.IsWhole)
    (x3 : Vec Ideal S3072x256 .i8) (x5 : Vec Ideal S48x256 .f32) :
    ∀ p ∈ kernelRun0_A.sl.HS2_48 (F := Ideal) c arg4 harg4 arg6 harg6 x3 x5, ∀ x,
      p.2 x = weights (arg4.view.read (Elt Ideal) (harg4.unread x3)) (arg6.view.read (Elt Ideal) (harg6.unread x5)) (p.1.emb x) := by
  unfold kernelRun0_A.sl.HS2_48
  iterate 48
    refine List.forall_mem_cons.2 ⟨piece _ _ _ (by decide) (by decide) (by decide) (by decide) _ ?_, ?_⟩
    · rfl
  exact fun p hp => absurd hp List.not_mem_nil

/-- Case A: what the matmul reads of weight scratch 2 is the dequantised weights. -/
theorem v1834_A (c : Dev nD) (arg4 : Memref sig .tc .vmem S3072x256 .i8) (harg4 : arg4.IsWhole) (arg6 : Memref sig .tc .vmem S48x256 .f32) (harg6 : arg6.IsWhole)
    (arg11 : Memref sig .tc .vmem S6144x256 .bf16) (x3 : Vec Ideal S3072x256 .i8) (x5 : Vec Ideal S48x256 .f32) :
    kernelRun0_A.sl.v1834 (F := Ideal) c arg4 harg4 arg6 harg6 arg11 x3 x5 = weights x3 x5 := by
  have hc : ∀ y, ∃ p ∈ kernelRun0_A.sl.HS2_48 (F := Ideal) c arg4 harg4 arg6 harg6 x3 x5, y ∈ p.1.set :=
    View.cover_of_tiledL _ S128x256.size (by sl_kernel_rfl)
  unfold kernelRun0_A.sl.v1834
  rw [View.readCov_eq_canon_ld _ _ _ hc, View.ld_unit_zero (by decide)]
  funext y
  refine (View.canon_apply_of_pieces _ _ (pieces2_A c arg4 harg4 arg6 harg6 x3 x5) y (hc y)).trans ?_
  rw [harg4.read_unread, harg6.read_unread]

theorem pieces1_B (c : Dev nD) (arg3 : Memref sig .tc .vmem S3072x256 .i8) (harg3 : arg3.IsWhole) (arg5 : Memref sig .tc .vmem S48x256 .f32) (harg5 : arg5.IsWhole)
    (x2 : Vec Ideal S3072x256 .i8) (x4 : Vec Ideal S48x256 .f32) :
    ∀ p ∈ kernelRun0_B.sl.HS1_48 (F := Ideal) c arg3 harg3 arg5 harg5 x2 x4, ∀ x,
      p.2 x = weights (arg3.view.read (Elt Ideal) (harg3.unread x2)) (arg5.view.read (Elt Ideal) (harg5.unread x4)) (p.1.emb x) := by
  unfold kernelRun0_B.sl.HS1_48
  iterate 48
    refine List.forall_mem_cons.2 ⟨piece _ _ _ (by decide) (by decide) (by decide) (by decide) _ ?_, ?_⟩
    · rfl
  exact fun p hp => absurd hp List.not_mem_nil

/-- Case B: what the matmul reads of weight scratch 1 is the dequantised weights. -/
theorem v1829_B (c : Dev nD) (arg3 : Memref sig .tc .vmem S3072x256 .i8) (harg3 : arg3.IsWhole) (arg5 : Memref sig .tc .vmem S48x256 .f32) (harg5 : arg5.IsWhole)
    (arg10 : Memref sig .tc .vmem S6144x256 .bf16) (x2 : Vec Ideal S3072x256 .i8) (x4 : Vec Ideal S48x256 .f32) :
    kernelRun0_B.sl.v1829 (F := Ideal) c arg3 harg3 arg5 harg5 arg10 x2 x4 = weights x2 x4 := by
  have hc : ∀ y, ∃ p ∈ kernelRun0_B.sl.HS1_48 (F := Ideal) c arg3 harg3 arg5 harg5 x2 x4, y ∈ p.1.set :=
    View.cover_of_tiledL _ S128x256.size (by sl_kernel_rfl)
  unfold kernelRun0_B.sl.v1829
  rw [View.readCov_eq_canon_ld _ _ _ hc, View.ld_unit_zero (by decide)]
  funext y
  refine (View.canon_apply_of_pieces _ _ (pieces1_B c arg3 harg3 arg5 harg5 x2 x4) y (hc y)).trans ?_
  rw [harg3.read_unread, harg5.read_unread]

theorem pieces2_B (c : Dev nD) (arg4 : Memref sig .tc .vmem S3072x256 .i8) (harg4 : arg4.IsWhole) (arg6 : Memref sig .tc .vmem S48x256 .f32) (harg6 : arg6.IsWhole)
    (x3 : Vec Ideal S3072x256 .i8) (x5 : Vec Ideal S48x256 .f32) :
    ∀ p ∈ kernelRun0_B.sl.HS2_48 (F := Ideal) c arg4 harg4 arg6 harg6 x3 x5, ∀ x,
      p.2 x = weights (arg4.view.read (Elt Ideal) (harg4.unread x3)) (arg6.view.read (Elt Ideal) (harg6.unread x5)) (p.1.emb x) := by
  unfold kernelRun0_B.sl.HS2_48
  iterate 48
    refine List.forall_mem_cons.2 ⟨piece _ _ _ (by decide) (by decide) (by decide) (by decide) _ ?_, ?_⟩
    · rfl
  exact fun p hp => absurd hp List.not_mem_nil

/-- Case B: what the matmul reads of weight scratch 2 is the dequantised weights. -/
theorem v1834_B (c : Dev nD) (arg4 : Memref sig .tc .vmem S3072x256 .i8) (harg4 : arg4.IsWhole) (arg6 : Memref sig .tc .vmem S48x256 .f32) (harg6 : arg6.IsWhole)
    (arg11 : Memref sig .tc .vmem S6144x256 .bf16) (x3 : Vec Ideal S3072x256 .i8) (x5 : Vec Ideal S48x256 .f32) :
    kernelRun0_B.sl.v1834 (F := Ideal) c arg4 harg4 arg6 harg6 arg11 x3 x5 = weights x3 x5 := by
  have hc : ∀ y, ∃ p ∈ kernelRun0_B.sl.HS2_48 (F := Ideal) c arg4 harg4 arg6 harg6 x3 x5, y ∈ p.1.set :=
    View.cover_of_tiledL _ S128x256.size (by sl_kernel_rfl)
  unfold kernelRun0_B.sl.v1834
  rw [View.readCov_eq_canon_ld _ _ _ hc, View.ld_unit_zero (by decide)]
  funext y
  refine (View.canon_apply_of_pieces _ _ (pieces2_B c arg4 harg4 arg6 harg6 x3 x5) y (hc y)).trans ?_
  rw [harg4.read_unread, harg6.read_unread]

end Cert.GateUp

end
-- ==== Proof.GateUpSpec.lean ====
/-
  Hand-written, untrusted. What the gate-and-up projection computes, over exact numbers.
-/
module

public import proofs.«01_k».proof.Proof.Rows

@[expose] public section

noncomputable section

namespace Cert.GateUp

open Idealize.ShloMosaic

abbrev Codes := (⟨2, ![1536, 6144]⟩ : Shape).Idx → EReal
abbrev Scales := (⟨2, ![1536, 1]⟩ : Shape).Idx → EReal
abbrev Packed := Vec Ideal ⟨2, ![3072, 32768]⟩ .i8
abbrev GroupScales := Vec Ideal ⟨2, ![48, 32768]⟩ .f32

/-- The whole weight matrix, dequantised: gate columns first, then up columns. -/
abbrev weight (Q : Packed) (S : GroupScales) : (⟨2, ![6144, 32768]⟩ : Shape).Idx → EReal :=
  Int4.rows (N := 6144) (R := 3072) (S := 48) (n := 32768) rfl rfl Q S

/-- One entry of the projection: row `r` of the codes times column `j` of the weights, times the row's scale. -/
def lin (X : Codes) (sc : Scales) (Q : Packed) (S : GroupScales) (r : Fin 1536) (j : Fin 32768) : EReal :=
  (∑ k : Fin 6144, X (ix2 r k) * weight Q S (ix2 k j)) * sc (ix2 r 0)

/-- The gated product. -/
def gated (g u : EReal) : EReal := g * Ideal.logistic g * u

/-- One entry of the hidden activations: gate column `j` against up column `j + 16384`. -/
def hidden (X : Codes) (sc : Scales) (Q : Packed) (S : GroupScales) (r : Fin 1536) (j : ℕ) (hj : j < 16384) : EReal :=
  gated (lin X sc Q S r ⟨j, by omega⟩) (lin X sc Q S r ⟨j + 16384, by omega⟩)

/-- The magnitude of an exact number. -/
def mag (x : EReal) : EReal := max x (-x)

theorem mag_nonneg (x : EReal) : 0 ≤ mag x := by
  unfold mag
  rcases le_total 0 x with h | h
  · exact le_max_of_le_left h
  · exact le_max_of_le_right (EReal.neg_nonneg.2 h)

/-- The magnitude of entry `l` of 128-wide chunk `b` of a row of the hidden activations. -/
def chunk (X : Codes) (sc : Scales) (Q : Packed) (S : GroupScales) (r : Fin 1536) (l : Fin 128) (b : ℕ) : EReal :=
  if h : b < 128 then mag (hidden X sc Q S r (128 * b + l.val) (by omega)) else 0

theorem chunk_nonneg (X : Codes) (sc : Scales) (Q : Packed) (S : GroupScales) (r : Fin 1536) (l : Fin 128) (b : ℕ) : 0 ≤ chunk X sc Q S r l b := by
  unfold chunk
  split
  · exact mag_nonneg _
  · exact le_rfl

/-- The running maximum over the first `n` chunks, from zero. -/
def running (X : Codes) (sc : Scales) (Q : Packed) (S : GroupScales) (r : Fin 1536) (l : Fin 128) : ℕ → EReal
  | 0 => 0
  | n + 1 => max (running X sc Q S r l n) (chunk X sc Q S r l n)

end Cert.GateUp

end
-- ==== Proof.GateUpStep.lean ====
/-
  Hand-written, untrusted. What one grid point of the gate-and-up kernel leaves in its outputs and in the carried scratch.
-/
module

public import proofs.«01_k».proof.Proof.GateUpBlock
public import proofs.«01_k».proof.Proof.GateUpSpec
public import Idealize.ShloMosaic.Lib.MatmulPlain

@[expose] public section

set_option maxRecDepth 65536

noncomputable section

namespace Cert.GateUp

open Cert.GateUpIdeal Cert.GateUpIdeal.Gen Idealize.ShloMosaic Idealize.ShloMosaic.TcCoe Idealize.SL.Sem

section Cases

variable (c : Dev nD) (i : grid0.Coords) (arg1 : Memref sig .tc .vmem S1536x6144 .fp8e4m3) (harg1 : arg1.IsWhole) (arg2 : Memref sig .tc .vmem S1536x1 .f32) (harg2 : arg2.IsWhole)
  (arg3 : Memref sig .tc .vmem S3072x256 .i8) (harg3 : arg3.IsWhole) (arg4 : Memref sig .tc .vmem S3072x256 .i8) (harg4 : arg4.IsWhole)
  (arg5 : Memref sig .tc .vmem S48x256 .f32) (harg5 : arg5.IsWhole) (arg6 : Memref sig .tc .vmem S48x256 .f32) (harg6 : arg6.IsWhole)
  (arg7 : Memref sig .tc .vmem S1536x256 .f32) (harg7 : arg7.IsWhole) (arg8 : Memref sig .tc .vmem S1536x128 .f32) (harg8 : arg8.IsWhole)
  (arg9 : Memref sig .tc .vmem S1536x6144 .bf16) (harg9 : arg9.IsWhole) (arg10 : Memref sig .tc .vmem S6144x256 .bf16) (harg10 : arg10.IsWhole)
  (arg11 : Memref sig .tc .vmem S6144x256 .bf16) (harg11 : arg11.IsWhole)
  (x0 : Vec Ideal S1536x6144 .fp8e4m3) (x1 : Vec Ideal S1536x1 .f32) (x2 x3 : Vec Ideal S3072x256 .i8) (x4 x5 : Vec Ideal S48x256 .f32)
  (xo7 : Vec Ideal S1536x128 .f32) (xs0 : Vec Ideal S1536x6144 .bf16)

theorem scale_A : kernelRun0_A.sl.r_96 (F := Ideal) c arg2 harg2 x1 = x1 := by
  unfold kernelRun0_A.sl.r_96
  rw [View.readAt_eq_ld, harg2.read_unread, View.ld_unit_zero (by decide)]

theorem scale_B : kernelRun0_B.sl.r_96 (F := Ideal) c arg2 harg2 x1 = x1 := by
  unfold kernelRun0_B.sl.r_96
  rw [View.readAt_eq_ld, harg2.read_unread, View.ld_unit_zero (by decide)]

/-- The scratch's one piece at the first point: the codes, unchanged as numbers. -/
theorem codes_piece : View.canon (kernelRun0_A.sl.HS0_1 (F := Ideal) c arg1 harg1 x0) = (x0 : S1536x6144.Idx → EReal) := by
  unfold kernelRun0_A.sl.HS0_1
  rw [View.canon_unit_zero (by decide)]
  unfold k0_pay3
  simp only [shapeCast_self]
  rw [View.readAt_eq_ld, harg1.read_unread, View.ld_unit_zero (by decide)]
  rfl

theorem codes_A : kernelRun0_A.sl.v1828 (F := Ideal) c arg1 harg1 arg9 x0 = (x0 : S1536x6144.Idx → EReal) := by
  unfold kernelRun0_A.sl.v1828
  rw [View.readCov_eq_canon']
  funext y
  rw [codes_piece]
  exact congrFun (View.ld_unit_zero (S := S1536x6144) (Val := Elt Ideal) (e := .bf16) (by decide) inb_S1536x6144_S1536x6144_0_0 (x0 : S1536x6144.Idx → EReal)) y

theorem out_A_6 (hc0 : cond0_0 i) :
    out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5
      = k0_pay1 (F := Ideal) x1 x0 (weights x2 x4) x0 (weights x3 x5) := by
  unfold out0_A_6 kernelRun0_A
  dsimp only
  rw [View.read_writes_junk_eq_canon, View.canon_unit_zero (by decide), scale_A, codes_A, v1829_A, v1834_A]

theorem out_A_7 (hc0 : cond0_0 i) :
    out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5
      = k0_pay2 (F := Ideal) x1 x0 (weights x2 x4) x0 (weights x3 x5) (k0_pay4 (F := Ideal)) := by
  unfold out0_A_7 kernelRun0_A
  dsimp only
  rw [View.read_writes_junk_eq_canon, View.canon_cons_unit_zero (by decide), scale_A, codes_A, v1829_A, v1834_A]
  congr 1
  unfold kernelRun0_A.sl.v1843 kernelRun0_A.sl.H7_1
  exact View.readCov_unit_zero _ (by decide) _ _

theorem sout_A_0 (hc0 : cond0_0 i) :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5
      = (x0 : S1536x6144.Idx → EReal) := by
  unfold sout0_A_0 kernelRun0_A
  dsimp only
  rw [View.read_writes_junk_eq_canon, codes_piece]

theorem out_B_6 (hc0 : ¬ cond0_0 i) :
    out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo7 xs0
      = k0_pay1 (F := Ideal) x1 xs0 (weights x2 x4) xs0 (weights x3 x5) := by
  unfold out0_B_6 kernelRun0_B
  dsimp only
  rw [View.read_writes_junk_eq_canon, View.canon_unit_zero (by decide), scale_B, View.readAt_eq_ld, harg9.read_unread, View.ld_unit_zero (by decide), v1829_B, v1834_B]

theorem out_B_7 (hc0 : ¬ cond0_0 i) :
    out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo7 xs0
      = k0_pay2 (F := Ideal) x1 xs0 (weights x2 x4) xs0 (weights x3 x5) xo7 := by
  unfold out0_B_7 kernelRun0_B
  dsimp only
  rw [View.read_writes_junk_eq_canon, View.canon_unit_zero (by decide), scale_B, View.readAt_eq_ld, harg9.read_unread, View.ld_unit_zero (by decide), v1829_B, v1834_B,
    View.readAt_eq_ld, harg8.read_unread, View.ld_unit_zero (by decide)]

end Cases

/-! ## The two stored values, entry by entry -/

/-- One column block's entry: the product with the dequantised block, times the row's scale. -/
def blockLin (X : S1536x6144.Idx → EReal) (sc : S1536x1.Idx → EReal) (w : S6144x256.Idx → EReal) (r : Fin 1536) (j : Fin 256) : EReal :=
  (∑ k : Fin 6144, X (ix2 r k) * w (ix2 k j)) * sc (ix2 r 0)

theorem pay1_apply (sc : Vec Ideal S1536x1 .f32) (X : Vec Ideal S1536x6144 .bf16) (wg wu : Vec Ideal S6144x256 .bf16) (r : Fin 1536) (j : Fin 256) :
    k0_pay1 (F := Ideal) sc X wg X wu (ix2 r j) = gated (blockLin X sc wg r j) (blockLin X sc wu r j) := by
  have e : ∀ w : Vec Ideal S6144x256 .bf16, (matmul (F := Ideal) (φ₁ := .bf16) (φ₂ := .bf16) dot_S1536x6144_S6144x256_S1536x256_1_0_0_1_n_n none X w (constant S1536x256 .f32 0x00000000#32)) (ix2 r j)
      * (broadcastTo S1536x256 sc broadcasts_S1536x1_S1536x256) (ix2 r j) = blockLin X sc w r j := by
    intro w
    unfold blockLin
    congr 1
    · refine (Ideal.matmul_plain_apply (M := 1536) (K := 6144) (N := 256) (φ₁ := .bf16) (φ₂ := .bf16) none X w (constant S1536x256 .f32 0x00000000#32) r j).trans ?_
      rw [show (constant (F := Ideal) S1536x256 .f32 0x00000000#32) (ValueIdx.ix2 r j) = (0 : EReal) from Ideal.ofBits_zero_f32, zero_add]
      rfl
    · refine congrArg sc (funext fun a => Fin.ext ?_)
      match a with
      | ⟨0, _⟩ => rfl
      | ⟨1, _⟩ => rfl
  unfold k0_pay1 gated
  rw [← e wg, ← e wu]
  rfl

theorem pay2_apply (sc : Vec Ideal S1536x1 .f32) (X : Vec Ideal S1536x6144 .bf16) (wg wu : Vec Ideal S6144x256 .bf16) (m : Vec Ideal S1536x128 .f32) (r : Fin 1536) (l : Fin 128) :
    k0_pay2 (F := Ideal) sc X wg X wu m (ix2 r l)
      = max (max (m (ix2 r l)) (mag (k0_pay1 (F := Ideal) sc X wg X wu (ix2 r ⟨l.val, by omega⟩)))) (mag (k0_pay1 (F := Ideal) sc X wg X wu (ix2 r ⟨128 + l.val, by omega⟩))) := by
  unfold k0_pay2
  generalize k0_pay1 (F := Ideal) sc X wg X wu = h
  simp only [shapeCast_self]
  have e1 : ∀ (o : ℕ) (ho : o + 128 ≤ 256) (hs : Shape.Slices S1536x256 ![0, o] S1536x128), extractStridedSlice S1536x128 ![0, o] (absf (F := Ideal) (φ := .f32) h) hs (ix2 r l)
      = mag (h (ix2 r ⟨o + l.val, by omega⟩)) := by
    intro o ho hs
    show mag (h _) = _
    refine congrArg (fun z => mag (h z)) (funext fun a => Fin.ext ?_)
    match a with
    | ⟨0, _⟩ => show 0 + r.val = r.val; omega
    | ⟨1, _⟩ => rfl
  show max (max (m (ix2 r l)) (extractStridedSlice S1536x128 ![0, 0] (absf (F := Ideal) (φ := .f32) h) _ (ix2 r l))) (extractStridedSlice S1536x128 ![0, 128] (absf (F := Ideal) (φ := .f32) h) _ (ix2 r l)) = _
  rw [e1 0 (by omega), e1 128 (by omega)]
  simp only [Nat.zero_add]

end Cert.GateUp

end
-- ==== Proof.GateUpArray.lean ====
/-
  Hand-written, untrusted. The gate-and-up kernel's two output arrays after the run.
-/
module

public import proofs.«01_k».proof.Proof.GateUpStep
public import proofs.«01_k».proof.Proof.Gen.GateUpIdeal.Value

@[expose] public section

set_option maxRecDepth 65536

noncomputable section

namespace Cert.GateUp

open Cert.GateUpIdeal Cert.GateUpIdeal.Gen Idealize.ShloMosaic Idealize.ShloMosaic.TcCoe Idealize.SL.Sem

variable (m : (ℓ : Loc nD τ sig) → Buf (Elt Ideal) ℓ) (c : Dev nD)

/-- The codes, row scales, packed weights and group scales the kernel is launched on. -/
abbrev A0 : Codes := m ((c : Thread nD τ).loc main_arg0)
abbrev A1 : Scales := m ((c : Thread nD τ).loc main_arg1)
abbrev A2 : Packed := m ((c : Thread nD τ).loc main_arg2)
abbrev A3 : GroupScales := m ((c : Thread nD τ).loc main_arg3)

/-! ## The blocks each point is given -/

theorem index_facts : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = t.val) ∧ (win0_3.index t (0 : Fin 2) = 0 ∧ win0_3.index t (1 : Fin 2) = t.val + 64)
    ∧ (win0_4.index t (0 : Fin 2) = 0 ∧ win0_4.index t (1 : Fin 2) = t.val) ∧ (win0_5.index t (0 : Fin 2) = 0 ∧ win0_5.index t (1 : Fin 2) = t.val + 64) :=
  (by decide +kernel : ∀ t : Fin grid0.N, _)

theorem iblk0 (t : Fin cfg0.N) : (iblk m c 0 t : S1536x6144.Idx → EReal) = A0 m c := by
  obtain ⟨⟨e0, e1⟩, -⟩ := index_facts t
  funext y
  refine (congrFun (V_main_arg0 m c) _).trans (congrArg (A0 m c) (funext fun a => Fin.ext ?_))
  match a with
  | ⟨0, _⟩ => show win0_0.index t (0 : Fin 2) * 1536 + 1 * (y 0).val = (y 0).val; rw [e0]; omega
  | ⟨1, _⟩ => show win0_0.index t (1 : Fin 2) * 6144 + 1 * (y 1).val = (y 1).val; rw [e1]; omega

theorem iblk1 (t : Fin cfg0.N) : (iblk m c 1 t : S1536x1.Idx → EReal) = A1 m c := by
  obtain ⟨-, ⟨e0, e1⟩, -⟩ := index_facts t
  funext y
  refine (congrFun (V_main_arg1 m c) _).trans (congrArg (A1 m c) (funext fun a => Fin.ext ?_))
  match a with
  | ⟨0, _⟩ => show win0_1.index t (0 : Fin 2) * 1536 + 1 * (y 0).val = (y 0).val; rw [e0]; omega
  | ⟨1, _⟩ => show win0_1.index t (1 : Fin 2) * 1 + 1 * (y 1).val = (y 1).val; rw [e1]; omega

theorem iblk2 (t : Fin cfg0.N) (k : Fin 3072) (j : Fin 256) (J : Fin 32768) (hJ : J.val = 256 * t.val + j.val) :
    (iblk m c 2 t : Vec Ideal S3072x256 .i8) (ix2 k j) = A2 m c (ix2 k J) := by
  obtain ⟨-, -, ⟨e0, e1⟩, -⟩ := index_facts t
  refine (congrFun (V_main_arg2 m c) _).trans (congrArg (A2 m c) (funext fun a => Fin.ext ?_))
  match a with
  | ⟨0, _⟩ => show win0_2.index t (0 : Fin 2) * 3072 + 1 * k.val = k.val; rw [e0]; omega
  | ⟨1, _⟩ => show win0_2.index t (1 : Fin 2) * 256 + 1 * j.val = J.val; rw [e1]; omega

theorem iblk3 (t : Fin cfg0.N) (k : Fin 3072) (j : Fin 256) (J : Fin 32768) (hJ : J.val = 256 * t.val + j.val + 16384) :
    (iblk m c 3 t : Vec Ideal S3072x256 .i8) (ix2 k j) = A2 m c (ix2 k J) := by
  obtain ⟨-, -, -, ⟨e0, e1⟩, -⟩ := index_facts t
  refine (congrFun (V_main_arg2 m c) _).trans (congrArg (A2 m c) (funext fun a => Fin.ext ?_))
  match a with
  | ⟨0, _⟩ => show win0_3.index t (0 : Fin 2) * 3072 + 1 * k.val = k.val; rw [e0]; omega
  | ⟨1, _⟩ => show win0_3.index t (1 : Fin 2) * 256 + 1 * j.val = J.val; rw [e1]; omega

theorem iblk4 (t : Fin cfg0.N) (k : Fin 48) (j : Fin 256) (J : Fin 32768) (hJ : J.val = 256 * t.val + j.val) :
    (iblk m c 4 t : Vec Ideal S48x256 .f32) (ix2 k j) = A3 m c (ix2 k J) := by
  obtain ⟨-, -, -, -, ⟨e0, e1⟩, -⟩ := index_facts t
  refine (congrFun (V_main_arg3 m c) _).trans (congrArg (A3 m c) (funext fun a => Fin.ext ?_))
  match a with
  | ⟨0, _⟩ => show win0_4.index t (0 : Fin 2) * 48 + 1 * k.val = k.val; rw [e0]; omega
  | ⟨1, _⟩ => show win0_4.index t (1 : Fin 2) * 256 + 1 * j.val = J.val; rw [e1]; omega

theorem iblk5 (t : Fin cfg0.N) (k : Fin 48) (j : Fin 256) (J : Fin 32768) (hJ : J.val = 256 * t.val + j.val + 16384) :
    (iblk m c 5 t : Vec Ideal S48x256 .f32) (ix2 k j) = A3 m c (ix2 k J) := by
  obtain ⟨-, -, -, -, -, e0, e1⟩ := index_facts t
  refine (congrFun (V_main_arg3 m c) _).trans (congrArg (A3 m c) (funext fun a => Fin.ext ?_))
  match a with
  | ⟨0, _⟩ => show win0_5.index t (0 : Fin 2) * 48 + 1 * k.val = k.val; rw [e0]; omega
  | ⟨1, _⟩ => show win0_5.index t (1 : Fin 2) * 256 + 1 * j.val = J.val; rw [e1]; omega

theorem lt64 (t : Fin cfg0.N) : t.val < 64 := lt_of_lt_of_eq t.isLt (show cfg0.N = 64 from N_0)

theorem lin_gate (t : Fin cfg0.N) (r : Fin 1536) (j : Fin 256) (J : Fin 32768) (hJ : J.val = 256 * t.val + j.val) :
    blockLin (A0 m c) (A1 m c) (weights (iblk m c 2 t) (iblk m c 4 t)) r j = lin (A0 m c) (A1 m c) (A2 m c) (A3 m c) r J := by
  unfold blockLin lin
  refine congrArg (· * _) (Finset.sum_congr rfl fun k _ => congrArg (_ * ·) ?_)
  show _ * _ = _ * _
  exact congrArg₂ (fun (z : BitVec 8) (w : EReal) => ((Int4.code z (k.val % 2) : ℝ) : EReal) * w) (iblk2 m c t _ j J hJ) (iblk4 m c t _ j J hJ)

theorem lin_up (t : Fin cfg0.N) (r : Fin 1536) (j : Fin 256) (J : Fin 32768) (hJ : J.val = 256 * t.val + j.val + 16384) :
    blockLin (A0 m c) (A1 m c) (weights (iblk m c 3 t) (iblk m c 5 t)) r j = lin (A0 m c) (A1 m c) (A2 m c) (A3 m c) r J := by
  unfold blockLin lin
  refine congrArg (· * _) (Finset.sum_congr rfl fun k _ => congrArg (_ * ·) ?_)
  show _ * _ = _ * _
  exact congrArg₂ (fun (z : BitVec 8) (w : EReal) => ((Int4.code z (k.val % 2) : ℝ) : EReal) * w) (iblk3 m c t _ j J hJ) (iblk5 m c t _ j J hJ)

/-- The block a point stores: its 256 columns of the hidden activations. -/
theorem stored (t : Fin cfg0.N) (r : Fin 1536) (j : Fin 256) :
    k0_pay1 (F := Ideal) (A1 m c) (A0 m c) (weights (iblk m c 2 t) (iblk m c 4 t)) (A0 m c) (weights (iblk m c 3 t) (iblk m c 5 t)) (ix2 r j)
      = hidden (A0 m c) (A1 m c) (A2 m c) (A3 m c) r (256 * t.val + j.val) (by have := lt64 t; omega) := by
  rw [pay1_apply]
  unfold hidden
  rw [lin_gate m c t r j ⟨256 * t.val + j.val, by have := lt64 t; omega⟩ rfl, lin_up m c t r j ⟨256 * t.val + j.val + 16384, by have := lt64 t; omega⟩ rfl]

/-- The maxima a point stores: two more chunks on top of what it found. -/
theorem stored_max (t : Fin cfg0.N) (r : Fin 1536) (l : Fin 128) (M : Vec Ideal S1536x128 .f32)
    (hM : M (ix2 r l) = running (A0 m c) (A1 m c) (A2 m c) (A3 m c) r l (2 * t.val)) :
    k0_pay2 (F := Ideal) (A1 m c) (A0 m c) (weights (iblk m c 2 t) (iblk m c 4 t)) (A0 m c) (weights (iblk m c 3 t) (iblk m c 5 t)) M (ix2 r l)
      = running (A0 m c) (A1 m c) (A2 m c) (A3 m c) r l (2 * (t.val + 1)) := by
  have ht := lt64 t
  rw [pay2_apply, stored, stored, hM]
  show _ = max (max _ (chunk _ _ _ _ r l (2 * t.val))) (chunk _ _ _ _ r l (2 * t.val + 1))
  unfold chunk
  rw [dif_pos (by omega), dif_pos (by omega)]
  have e1 : 256 * t.val + l.val = 128 * (2 * t.val) + l.val := by omega
  have e2 : 256 * t.val + (128 + l.val) = 128 * (2 * t.val + 1) + l.val := by omega
  simp only [e1, e2]
  rfl

/-! ## After each point -/

theorem carried (n : ℕ) : ∀ hn : n < cfg0.N, ((outsAt0 m c n hn).2.2 : S1536x6144.Idx → EReal) = A0 m c := by
  induction n with
  | zero =>
    intro hn
    rw [show outsAt0 m c 0 hn = _ from outsAt0_A m c ⟨0, hn⟩ rfl]
    dsimp only
    rw [sout_A_0, iblk0]
  | succ n ih =>
    intro hn
    have hN := lt_of_lt_of_eq hn (show cfg0.N = 64 from N_0)
    rw [show outsAt0 m c (n + 1) hn = _ from outsAt0_B m c ⟨n + 1, hn⟩ (by show ¬ (n + 1) % 64 = 0; omega)]
    dsimp only
    unfold sout0_B_0
    exact ih _

theorem block_at (n : ℕ) (hn : n < cfg0.N) (r : Fin 1536) (j : Fin 256) :
    (outsAt0 m c n hn).1 (ix2 r j)
      = hidden (A0 m c) (A1 m c) (A2 m c) (A3 m c) r (256 * n + j.val) (by have := lt64 ⟨n, hn⟩; simp only at this; omega) := by
  rcases n with _ | n
  · rw [show outsAt0 m c 0 hn = _ from outsAt0_A m c ⟨0, hn⟩ rfl]
    dsimp only
    rw [out_A_6, iblk0, iblk1]
    exact stored m c ⟨0, hn⟩ r j
  · have hN := lt_of_lt_of_eq hn (show cfg0.N = 64 from N_0)
    rw [show outsAt0 m c (n + 1) hn = _ from outsAt0_B m c ⟨n + 1, hn⟩ (by show ¬ (n + 1) % 64 = 0; omega)]
    dsimp only
    rw [out_B_6, carried, iblk1]
    exact stored m c ⟨n + 1, hn⟩ r j

theorem max_at (n : ℕ) : ∀ (hn : n < cfg0.N) (r : Fin 1536) (l : Fin 128),
    (outsAt0 m c n hn).2.1 (ix2 r l) = running (A0 m c) (A1 m c) (A2 m c) (A3 m c) r l (2 * (n + 1)) := by
  induction n with
  | zero =>
    intro hn r l
    rw [show outsAt0 m c 0 hn = _ from outsAt0_A m c ⟨0, hn⟩ rfl]
    dsimp only
    rw [out_A_7, iblk0, iblk1]
    exact stored_max m c ⟨0, hn⟩ r l _ Ideal.ofBits_zero_f32
  | succ n ih =>
    intro hn r l
    have hN := lt_of_lt_of_eq hn (show cfg0.N = 64 from N_0)
    rw [show outsAt0 m c (n + 1) hn = _ from outsAt0_B m c ⟨n + 1, hn⟩ (by show ¬ (n + 1) % 64 = 0; omega)]
    dsimp only
    rw [out_B_7, carried, iblk1]
    exact stored_max m c ⟨n + 1, hn⟩ r l _ (ih _ r l)

/-! ## The arrays after the run -/

theorem array_hidden (r : Fin 1536) (J : Fin 16384) :
    Value.G6 m c (ix2 r J) = hidden (A0 m c) (A1 m c) (A2 m c) (A3 m c) r J.val J.isLt := by
  have hr := r.isLt
  have hJ := J.isLt
  have hp : Value.pt6Of (ix2 r J) = J.val / 256 := by
    show 64 * (r.val / 1536 - 0) + 1 * (J.val / 256 - 0) = _; omega
  have hlt : J.val / 256 < cfg0.N := lt_of_lt_of_eq (by omega) (show cfg0.N = 64 from N_0).symm
  have hl : Value.loc6Of (ix2 r J) = ix2 r ⟨J.val % 256, by omega⟩ := by
    funext a; apply Fin.ext
    match a with
    | ⟨0, _⟩ => show r.val % 1536 = r.val; omega
    | ⟨1, _⟩ => rfl
  unfold Value.G6
  rw [dif_pos (by rw [hp]; exact hlt), hl, Value.fold0_congr m c _ _ (J.val / 256) (by omega) hp, ← Value.outsAt0_sweep m c _ hlt, block_at]
  have e : 256 * (J.val / 256) + J.val % 256 = J.val := by omega
  simp only [e]

theorem array_max (r : Fin 1536) (l : Fin 128) :
    Value.G7 m c (ix2 r l) = running (A0 m c) (A1 m c) (A2 m c) (A3 m c) r l 128 := by
  rw [Value.G7_last, ← Value.outsAt0_sweep m c 63 (lt_of_lt_of_eq (by decide) N_0.symm), max_at]

end Cert.GateUp

end
-- ==== Proof.GateUpRef.lean ====
/-
  Hand-written, untrusted. What the reference of the gate-and-up projection computes, read at an index over exact numbers.
-/
module

public import proofs.«01_k».proof.Proof.GateUpSpec
public import proofs.«01_k».proof.Proof.Gen.GateUpRefIdeal.Read
public import Idealize.ShloMosaic.Lib.Pipeline.ValueKit
public import Idealize.ShloMosaic.Lib.IdealHost

@[expose] public section

set_option maxRecDepth 16384

noncomputable section

namespace Cert.GateUp.Ref

open Cert.GateUpRefIdeal Cert.GateUpRefIdeal.Read Idealize.ShloMosaic

/-- A sum over the rows is the sum over the even ones plus the sum over the odd ones. -/
theorem even_odd (f : Fin 6144 → EReal) :
    (∑ k : Fin 6144, f k) = (∑ k : Fin 3072, f ⟨2 * k.val, by omega⟩) + ∑ k : Fin 3072, f ⟨2 * k.val + 1, by omega⟩ := by
  rw [← (finProdFinEquiv (m := 3072) (n := 2)).sum_comp (g := f), Fintype.sum_prod_type, ← Finset.sum_add_distrib]
  refine Finset.sum_congr rfl fun k _ => ?_
  rw [Fin.sum_univ_two]
  exact congrArg₂ (fun a b => f a + f b) (Fin.ext (by show 0 + 2 * k.val = 2 * k.val; omega)) (Fin.ext (by show 1 + 2 * k.val = 2 * k.val + 1; omega))

variable (sc : Scales) (Q : Packed) (S : GroupScales) (X : Codes)

/-! ## The weights -/

theorem shift_four (x : BitVec 32) : IntOp.shrsi .host x 4#32 = x.sshiftRight 4 := by
  unfold IntOp.shrsi
  rw [if_pos (by decide)]
  rfl

/-- The reference's integer work on one byte. -/
theorem gate_low_int (i : S3072x16384.Idx) :
    val_main_v19 (F := Ideal) Q i = ((Int4.code (Q (idx_main_v1 i)) 0 : ℝ) : EReal) := by
  have e : val_main_v10 (F := Ideal) Q i = ((((Q (idx_main_v1 i)).setWidth 32) &&& 15#32) ^^^ 8#32) - 8#32 := by
    rw [val_main_v10_apply, val_main_v8_apply, val_main_v6_apply, val_main_v4_apply, val_main_v1_apply, val_main_v5_apply, val_main_v7_apply, val_main_v9_apply, val_main_c_apply, val_main_c_0_apply, val_main_c_1_apply]
    rfl
  refine (val_main_v19_apply _ _).trans ((congrArg (fun z : BitVec 32 => ((z.toInt : ℝ) : EReal)) e).trans ?_)
  exact congrArg (fun z : ℤ => ((z : ℝ) : EReal)) (Int4.reference_low (Q (idx_main_v1 i)))

theorem gate_low (k : Fin 3072) (j : Fin 16384) (J : Fin 32768) (hJ : J.val = j.val) :
    val_main_v26 (F := Ideal) Q S (ix2 k j) = weight Q S (ix2 ⟨2 * k.val, by omega⟩ J) := by
  have hk := k.isLt
  have hj := j.isLt
  refine (val_main_v26_apply _ _ _).trans ((val_main_v25_apply _ _ _).trans ?_)
  refine congrArg₂ (fun a b : EReal => a * b) ?_ ?_
  · refine (val_main_v23_apply _ _).trans ?_
    refine (gate_low_int Q _).trans ?_
    refine congrArg₂ (fun (z : BitVec 8) (n : ℕ) => ((Int4.code z n : ℝ) : EReal)) (congrArg Q (funext fun a => Fin.ext ?_)) ?_
    · match a with
      | ⟨0, _⟩ =>
        show ((((k.val * 16384 + j.val) / 1048576) * 64 + (k.val * 16384 + j.val) / 16384 % 64) * 16384 + (k.val * 16384 + j.val) % 16384) / 16384 = (2 * k.val) / 2
        omega
      | ⟨1, _⟩ =>
        show ((((k.val * 16384 + j.val) / 1048576) * 64 + (k.val * 16384 + j.val) / 16384 % 64) * 16384 + (k.val * 16384 + j.val) % 16384) % 16384 = J.val
        omega
    · show 0 = (2 * k.val) % 2
      omega
  · refine (val_main_v24_apply _ _).trans ((val_main_v22_apply _ _).trans ((val_main_v2_apply _ _).trans ?_))
    refine congrArg S (funext fun a => Fin.ext ?_)
    match a with
    | ⟨0, _⟩ =>
      show (k.val * 16384 + j.val) / 1048576 = (2 * k.val) / 128
      omega
    | ⟨1, _⟩ =>
      show (k.val * 16384 + j.val) % 16384 = J.val
      omega

/-- The reference's integer work on one byte. -/
theorem gate_high_int (i : S3072x16384.Idx) :
    val_main_v20 (F := Ideal) Q i = ((Int4.code (Q (idx_main_v1 i)) 1 : ℝ) : EReal) := by
  have e : val_main_v18 (F := Ideal) Q i = (((((Q (idx_main_v1 i)).setWidth 32).sshiftRight 4) &&& 15#32) ^^^ 8#32) - 8#32 := by
    rw [val_main_v18_apply, val_main_v16_apply, val_main_v14_apply, val_main_v12_apply, val_main_v4_apply, val_main_v1_apply, val_main_v11_apply, val_main_v13_apply, val_main_v15_apply, val_main_v17_apply, val_main_c_2_apply, val_main_c_3_apply, val_main_c_4_apply, val_main_c_5_apply]
    rw [shift_four]
    rfl
  refine (val_main_v20_apply _ _).trans ((congrArg (fun z : BitVec 32 => ((z.toInt : ℝ) : EReal)) e).trans ?_)
  exact congrArg (fun z : ℤ => ((z : ℝ) : EReal)) (Int4.reference_high (Q (idx_main_v1 i)))

theorem gate_high (k : Fin 3072) (j : Fin 16384) (J : Fin 32768) (hJ : J.val = j.val) :
    val_main_v30 (F := Ideal) Q S (ix2 k j) = weight Q S (ix2 ⟨2 * k.val + 1, by omega⟩ J) := by
  have hk := k.isLt
  have hj := j.isLt
  refine (val_main_v30_apply _ _ _).trans ((val_main_v29_apply _ _ _).trans ?_)
  refine congrArg₂ (fun a b : EReal => a * b) ?_ ?_
  · refine (val_main_v27_apply _ _).trans ?_
    refine (gate_high_int Q _).trans ?_
    refine congrArg₂ (fun (z : BitVec 8) (n : ℕ) => ((Int4.code z n : ℝ) : EReal)) (congrArg Q (funext fun a => Fin.ext ?_)) ?_
    · match a with
      | ⟨0, _⟩ =>
        show ((((k.val * 16384 + j.val) / 1048576) * 64 + (k.val * 16384 + j.val) / 16384 % 64) * 16384 + (k.val * 16384 + j.val) % 16384) / 16384 = (2 * k.val + 1) / 2
        omega
      | ⟨1, _⟩ =>
        show ((((k.val * 16384 + j.val) / 1048576) * 64 + (k.val * 16384 + j.val) / 16384 % 64) * 16384 + (k.val * 16384 + j.val) % 16384) % 16384 = J.val
        omega
    · show 1 = (2 * k.val + 1) % 2
      omega
  · refine (val_main_v28_apply _ _).trans ((val_main_v22_apply _ _).trans ((val_main_v2_apply _ _).trans ?_))
    refine congrArg S (funext fun a => Fin.ext ?_)
    match a with
    | ⟨0, _⟩ =>
      show (k.val * 16384 + j.val) / 1048576 = (2 * k.val + 1) / 128
      omega
    | ⟨1, _⟩ =>
      show (k.val * 16384 + j.val) % 16384 = J.val
      omega

/-- The reference's integer work on one byte. -/
theorem up_low_int (i : S3072x16384.Idx) :
    val_main_v58 (F := Ideal) Q i = ((Int4.code (Q (idx_main_v40 i)) 0 : ℝ) : EReal) := by
  have e : val_main_v49 (F := Ideal) Q i = ((((Q (idx_main_v40 i)).setWidth 32) &&& 15#32) ^^^ 8#32) - 8#32 := by
    rw [val_main_v49_apply, val_main_v47_apply, val_main_v45_apply, val_main_v43_apply, val_main_v40_apply, val_main_v44_apply, val_main_v46_apply, val_main_v48_apply, val_main_c_6_apply, val_main_c_7_apply, val_main_c_8_apply]
    rfl
  refine (val_main_v58_apply _ _).trans ((congrArg (fun z : BitVec 32 => ((z.toInt : ℝ) : EReal)) e).trans ?_)
  exact congrArg (fun z : ℤ => ((z : ℝ) : EReal)) (Int4.reference_low (Q (idx_main_v40 i)))

theorem up_low (k : Fin 3072) (j : Fin 16384) (J : Fin 32768) (hJ : J.val = j.val + 16384) :
    val_main_v65 (F := Ideal) Q S (ix2 k j) = weight Q S (ix2 ⟨2 * k.val, by omega⟩ J) := by
  have hk := k.isLt
  have hj := j.isLt
  refine (val_main_v65_apply _ _ _).trans ((val_main_v64_apply _ _ _).trans ?_)
  refine congrArg₂ (fun a b : EReal => a * b) ?_ ?_
  · refine (val_main_v62_apply _ _).trans ?_
    refine (up_low_int Q _).trans ?_
    refine congrArg₂ (fun (z : BitVec 8) (n : ℕ) => ((Int4.code z n : ℝ) : EReal)) (congrArg Q (funext fun a => Fin.ext ?_)) ?_
    · match a with
      | ⟨0, _⟩ =>
        show ((((k.val * 16384 + j.val) / 1048576) * 64 + (k.val * 16384 + j.val) / 16384 % 64) * 16384 + (k.val * 16384 + j.val) % 16384) / 16384 = (2 * k.val) / 2
        omega
      | ⟨1, _⟩ =>
        show 16384 + ((((k.val * 16384 + j.val) / 1048576) * 64 + (k.val * 16384 + j.val) / 16384 % 64) * 16384 + (k.val * 16384 + j.val) % 16384) % 16384 = J.val
        omega
    · show 0 = (2 * k.val) % 2
      omega
  · refine (val_main_v63_apply _ _).trans ((val_main_v61_apply _ _).trans ((val_main_v41_apply _ _).trans ?_))
    refine congrArg S (funext fun a => Fin.ext ?_)
    match a with
    | ⟨0, _⟩ =>
      show (k.val * 16384 + j.val) / 1048576 = (2 * k.val) / 128
      omega
    | ⟨1, _⟩ =>
      show 16384 + (k.val * 16384 + j.val) % 16384 = J.val
      omega

/-- The reference's integer work on one byte. -/
theorem up_high_int (i : S3072x16384.Idx) :
    val_main_v59 (F := Ideal) Q i = ((Int4.code (Q (idx_main_v40 i)) 1 : ℝ) : EReal) := by
  have e : val_main_v57 (F := Ideal) Q i = (((((Q (idx_main_v40 i)).setWidth 32).sshiftRight 4) &&& 15#32) ^^^ 8#32) - 8#32 := by
    rw [val_main_v57_apply, val_main_v55_apply, val_main_v53_apply, val_main_v51_apply, val_main_v43_apply, val_main_v40_apply, val_main_v50_apply, val_main_v52_apply, val_main_v54_apply, val_main_v56_apply, val_main_c_9_apply, val_main_c_10_apply, val_main_c_11_apply, val_main_c_12_apply]
    rw [shift_four]
    rfl
  refine (val_main_v59_apply _ _).trans ((congrArg (fun z : BitVec 32 => ((z.toInt : ℝ) : EReal)) e).trans ?_)
  exact congrArg (fun z : ℤ => ((z : ℝ) : EReal)) (Int4.reference_high (Q (idx_main_v40 i)))

theorem up_high (k : Fin 3072) (j : Fin 16384) (J : Fin 32768) (hJ : J.val = j.val + 16384) :
    val_main_v69 (F := Ideal) Q S (ix2 k j) = weight Q S (ix2 ⟨2 * k.val + 1, by omega⟩ J) := by
  have hk := k.isLt
  have hj := j.isLt
  refine (val_main_v69_apply _ _ _).trans ((val_main_v68_apply _ _ _).trans ?_)
  refine congrArg₂ (fun a b : EReal => a * b) ?_ ?_
  · refine (val_main_v66_apply _ _).trans ?_
    refine (up_high_int Q _).trans ?_
    refine congrArg₂ (fun (z : BitVec 8) (n : ℕ) => ((Int4.code z n : ℝ) : EReal)) (congrArg Q (funext fun a => Fin.ext ?_)) ?_
    · match a with
      | ⟨0, _⟩ =>
        show ((((k.val * 16384 + j.val) / 1048576) * 64 + (k.val * 16384 + j.val) / 16384 % 64) * 16384 + (k.val * 16384 + j.val) % 16384) / 16384 = (2 * k.val + 1) / 2
        omega
      | ⟨1, _⟩ =>
        show 16384 + ((((k.val * 16384 + j.val) / 1048576) * 64 + (k.val * 16384 + j.val) / 16384 % 64) * 16384 + (k.val * 16384 + j.val) % 16384) % 16384 = J.val
        omega
    · show 1 = (2 * k.val + 1) % 2
      omega
  · refine (val_main_v67_apply _ _).trans ((val_main_v61_apply _ _).trans ((val_main_v41_apply _ _).trans ?_))
    refine congrArg S (funext fun a => Fin.ext ?_)
    match a with
    | ⟨0, _⟩ =>
      show (k.val * 16384 + j.val) / 1048576 = (2 * k.val + 1) / 128
      omega
    | ⟨1, _⟩ =>
      show 16384 + (k.val * 16384 + j.val) % 16384 = J.val
      omega

/-! ## The columns of the codes -/

theorem gate_even (r : Fin 1536) (k : Fin 3072) :
    val_main_v32 (F := Ideal) X (ix2 r k) = X (ix2 r ⟨2 * k.val, by omega⟩) := by
  have hk := k.isLt
  have hr := r.isLt
  refine (val_main_v32_apply _ _).trans ((val_main_v31_apply _ _).trans ((val_main_v3_apply _ _).trans ?_))
  refine congrArg X (funext fun a => Fin.ext ?_)
  match a with
  | ⟨0, _⟩ =>
    show (((r.val * 3072 + k.val) / 3072 * 3072 + (r.val * 3072 + k.val) / 1 % 3072) * 2 + 0) / 6144 = r.val
    omega
  | ⟨1, _⟩ =>
    show (((r.val * 3072 + k.val) / 3072 * 3072 + (r.val * 3072 + k.val) / 1 % 3072) * 2 + 0) % 6144 = 2 * k.val
    omega

theorem gate_odd (r : Fin 1536) (k : Fin 3072) :
    val_main_v35 (F := Ideal) X (ix2 r k) = X (ix2 r ⟨2 * k.val + 1, by omega⟩) := by
  have hk := k.isLt
  have hr := r.isLt
  refine (val_main_v35_apply _ _).trans ((val_main_v34_apply _ _).trans ((val_main_v3_apply _ _).trans ?_))
  refine congrArg X (funext fun a => Fin.ext ?_)
  match a with
  | ⟨0, _⟩ =>
    show (((r.val * 3072 + k.val) / 3072 * 3072 + (r.val * 3072 + k.val) / 1 % 3072) * 2 + (1 + 0)) / 6144 = r.val
    omega
  | ⟨1, _⟩ =>
    show (((r.val * 3072 + k.val) / 3072 * 3072 + (r.val * 3072 + k.val) / 1 % 3072) * 2 + (1 + 0)) % 6144 = 2 * k.val + 1
    omega

theorem up_even (r : Fin 1536) (k : Fin 3072) :
    val_main_v71 (F := Ideal) X (ix2 r k) = X (ix2 r ⟨2 * k.val, by omega⟩) := by
  have hk := k.isLt
  have hr := r.isLt
  refine (val_main_v71_apply _ _).trans ((val_main_v70_apply _ _).trans ((val_main_v42_apply _ _).trans ?_))
  refine congrArg X (funext fun a => Fin.ext ?_)
  match a with
  | ⟨0, _⟩ =>
    show (((r.val * 3072 + k.val) / 3072 * 3072 + (r.val * 3072 + k.val) / 1 % 3072) * 2 + 0) / 6144 = r.val
    omega
  | ⟨1, _⟩ =>
    show (((r.val * 3072 + k.val) / 3072 * 3072 + (r.val * 3072 + k.val) / 1 % 3072) * 2 + 0) % 6144 = 2 * k.val
    omega

theorem up_odd (r : Fin 1536) (k : Fin 3072) :
    val_main_v74 (F := Ideal) X (ix2 r k) = X (ix2 r ⟨2 * k.val + 1, by omega⟩) := by
  have hk := k.isLt
  have hr := r.isLt
  refine (val_main_v74_apply _ _).trans ((val_main_v73_apply _ _).trans ((val_main_v42_apply _ _).trans ?_))
  refine congrArg X (funext fun a => Fin.ext ?_)
  match a with
  | ⟨0, _⟩ =>
    show (((r.val * 3072 + k.val) / 3072 * 3072 + (r.val * 3072 + k.val) / 1 % 3072) * 2 + (1 + 0)) / 6144 = r.val
    omega
  | ⟨1, _⟩ =>
    show (((r.val * 3072 + k.val) / 3072 * 3072 + (r.val * 3072 + k.val) / 1 % 3072) * 2 + (1 + 0)) % 6144 = 2 * k.val + 1
    omega

/-! ## The two projections -/

theorem gate_eq (r : Fin 1536) (j : Fin 16384) (J : Fin 32768) (hJ : J.val = j.val) :
    val_main_v39 (F := Ideal) sc Q S X (ix2 r j) = lin X sc Q S r J := by
  refine (val_main_v39_apply _ _ _ _ _).trans ?_
  unfold lin
  refine congrArg₂ (fun a b : EReal => a * b) ?_ ?_
  · refine (val_main_v37_apply _ _ _ _).trans (Eq.trans ?_ (even_odd fun k => X (ix2 r k) * weight Q S (ix2 k J)).symm)
    refine congrArg₂ (fun a b : EReal => a + b) ?_ ?_
    · refine (val_main_v33_apply _ _ _ _).trans (Finset.sum_congr rfl fun k _ => congrArg₂ (fun a b : EReal => a * b) ?_ ?_)
      · exact (congrArg _ (eq_ix2 _)).trans (gate_even X r k)
      · exact (congrArg _ (eq_ix2 _)).trans (gate_low Q S k j J hJ)
    · refine (val_main_v36_apply _ _ _ _).trans (Finset.sum_congr rfl fun k _ => congrArg₂ (fun a b : EReal => a * b) ?_ ?_)
      · exact (congrArg _ (eq_ix2 _)).trans (gate_odd X r k)
      · exact (congrArg _ (eq_ix2 _)).trans (gate_high Q S k j J hJ)
  · exact (val_main_v38_apply _ _).trans (congrArg sc (eq_ix2 _))

theorem up_eq (r : Fin 1536) (j : Fin 16384) (J : Fin 32768) (hJ : J.val = j.val + 16384) :
    val_main_v78 (F := Ideal) sc Q S X (ix2 r j) = lin X sc Q S r J := by
  refine (val_main_v78_apply _ _ _ _ _).trans ?_
  unfold lin
  refine congrArg₂ (fun a b : EReal => a * b) ?_ ?_
  · refine (val_main_v76_apply _ _ _ _).trans (Eq.trans ?_ (even_odd fun k => X (ix2 r k) * weight Q S (ix2 k J)).symm)
    refine congrArg₂ (fun a b : EReal => a + b) ?_ ?_
    · refine (val_main_v72_apply _ _ _ _).trans (Finset.sum_congr rfl fun k _ => congrArg₂ (fun a b : EReal => a * b) ?_ ?_)
      · exact (congrArg _ (eq_ix2 _)).trans (up_even X r k)
      · exact (congrArg _ (eq_ix2 _)).trans (up_low Q S k j J hJ)
    · refine (val_main_v75_apply _ _ _ _).trans (Finset.sum_congr rfl fun k _ => congrArg₂ (fun a b : EReal => a * b) ?_ ?_)
      · exact (congrArg _ (eq_ix2 _)).trans (up_odd X r k)
      · exact (congrArg _ (eq_ix2 _)).trans (up_high Q S k j J hJ)
  · exact (val_main_v77_apply _ _).trans (congrArg sc (eq_ix2 _))

/-! ## The results -/

/-- The first result: the gated product. -/
theorem hidden_eq (r : Fin 1536) (j : Fin 16384) :
    val_main_v86 (F := Ideal) sc Q S X (ix2 r j) = hidden X sc Q S r j.val j.isLt := by
  have hg := gate_eq sc Q S X r j ⟨j.val, by omega⟩ rfl
  have hu := up_eq sc Q S X r j ⟨j.val + 16384, by omega⟩ rfl
  have hone : Ideal.ofBits .f32 0x3F800000#32 = 1 := Ideal.ofBits_one_f32
  show (val_main_v39 (F := Ideal) sc Q S X (ix2 r j) * Ideal.div (Ideal.ofBits .f32 0x3F800000#32)
      (Ideal.ofBits .f32 0x3F800000#32 + Ideal.exp (-(val_main_v39 (F := Ideal) sc Q S X (ix2 r j))))) * val_main_v78 (F := Ideal) sc Q S X (ix2 r j) = _
  rw [hg, hu, hone]
  rfl

theorem running_le (r : Fin 1536) (l : Fin 128) (z : EReal) :
    ∀ n, running X sc Q S r l n ≤ z ↔ 0 ≤ z ∧ ∀ b < n, chunk X sc Q S r l b ≤ z
  | 0 => ⟨fun h => ⟨h, fun b hb => absurd hb (by omega)⟩, fun h => h.1⟩
  | n + 1 => by
    show max _ _ ≤ z ↔ _
    rw [max_le_iff, running_le r l z n]
    refine ⟨fun ⟨⟨h0, h⟩, hn⟩ => ⟨h0, fun b hb => ?_⟩, fun ⟨h0, h⟩ => ⟨⟨h0, fun b hb => h b (by omega)⟩, h n (by omega)⟩⟩
    rcases Nat.lt_succ_iff_lt_or_eq.1 hb with hb | rfl
    · exact h b hb
    · exact hn

theorem lift_ix3 (h : S1536x128x128.Reduces [1] S1536x128) (r : Fin 1536) (l : Fin 128) (b : Fin 128) :
    h.lift (ix2 r l) b = (ix3 r b l : S1536x128x128.Idx) := by
  funext a; apply Fin.ext
  match a with
  | ⟨0, _⟩ => rfl
  | ⟨1, _⟩ => rfl
  | ⟨2, _⟩ => rfl

/-- Entry `l` of chunk `b` in the array whose maximum the reference takes. -/
theorem chunk_eq (r : Fin 1536) (b l : Fin 128) :
    val_main_v88 (F := Ideal) sc Q S X (ix3 r b l) = chunk X sc Q S r l b.val := by
  have hb := b.isLt
  have hl := l.isLt
  have hr := r.isLt
  unfold chunk
  rw [dif_pos b.isLt]
  refine (val_main_v88_apply _ _ _ _ _).trans ((val_main_v87_apply _ _ _ _ _).trans ?_)
  refine congrArg mag ?_
  refine Eq.trans (congrArg _ (funext fun a => Fin.ext ?_)) (hidden_eq sc Q S X r ⟨128 * b.val + l.val, by omega⟩)
  match a with
  | ⟨0, _⟩ =>
    show ((r.val * 128 + b.val) * 128 + l.val) / 16384 = r.val
    omega
  | ⟨1, _⟩ =>
    show ((r.val * 128 + b.val) * 128 + l.val) % 16384 = 128 * b.val + l.val
    omega

/-- The second result: the running maximum over all 128 chunks. -/
theorem max_eq (r : Fin 1536) (l : Fin 128) :
    val_main_v89 (F := Ideal) sc Q S X (ix2 r l) = running X sc Q S r l 128 := by
  unfold val_main_v89
  rw [Host.reduce_eq_fold_single FloatOps.maximumf _ _ Gen.reducesTo_S1536x128x128_S1536x128_d1 (by decide : S1536x128x128.Reduces [1] S1536x128) Gen.h_S_]
  have hf : (val_main_v88 (F := Ideal) sc Q S X ∘ (by decide : S1536x128x128.Reduces [1] S1536x128).lift (ix2 r l)) = fun b : Fin 128 => chunk X sc Q S r l b.val :=
    funext fun b => (congrArg (val_main_v88 (F := Ideal) sc Q S X) (lift_ix3 _ r l b)).trans (chunk_eq sc Q S X r b l)
  refine (congrArg (fun f => Finset.fold max (Ideal.ofBits .f32 0xFF800000#32) f (Finset.univ : Finset (Fin 128))) hf).trans ?_
  have hbot : Ideal.ofBits .f32 0xFF800000#32 = ⊥ := by simp [Ideal.ofBits, Ideal.ieee]
  rw [hbot]
  refine eq_of_forall_ge_iff fun z => ?_
  rw [Finset.fold_max_le, running_le]
  constructor
  · intro h
    exact ⟨(chunk_nonneg X sc Q S r l 0).trans (h.2 ⟨0, by decide⟩ (Finset.mem_univ _)), fun b hb => h.2 ⟨b, hb⟩ (Finset.mem_univ _)⟩
  · intro h
    exact ⟨bot_le, fun b _ => h.2 b.val b.isLt⟩

/-! ## The widened codes -/

open Cert.GateUpRefIdeal.Gen Idealize.ShloMosaic.TcCoe Idealize.SL.Sem in
/-- The reference's first step leaves the codes, read as numbers. -/
theorem widened (m : (ℓ : Loc nD τ sig) → Buf (Elt Ideal) ℓ) (c : Dev nD) :
    (Value.reg_main_v0 m c : S1536x6144.Idx → EReal) = m ((c : Thread nD τ).loc main_arg0) := by
  unfold Value.reg_main_v0
  refine (dats m 0 c).arrAt_eq_of_after_last 1 t0_0 (by decide +kernel) _ fun j => ?_
  rw [after0_1]
  unfold out0_1
  rw [View.canon_unit_zero (by decide), View.ld_unit_zero (by decide)]
  refine (congrFun (V_main_arg0 m c) _).trans (congrArg (m ((c : Thread nD τ).loc main_arg0)) (funext fun a => Fin.ext ?_))
  match a with
  | ⟨0, _⟩ => show 0 * 1536 + 1 * (j 0).val = (j 0).val; omega
  | ⟨1, _⟩ => show 0 * 6144 + 1 * (j 1).val = (j 1).val; omega

end Cert.GateUp.Ref

end
-- ==== Proof.GateUpClaim.lean ====
/-
  Hand-written, untrusted. The gate-and-up kernel and its reference leave equal results over exact numbers.
-/
module

public import proofs.«01_k».proof.Defs
public import proofs.«01_k».proof.Proof.GateUpArray
public import proofs.«01_k».proof.Proof.GateUpRef

@[expose] public section

set_option maxRecDepth 16384

noncomputable section

namespace Cert.Proof

open Idealize.ShloMosaic Idealize.ShloMosaic.TcCoe Idealize.SL.Sem

theorem gate_up : Cert.algebraic_GateUpIdeal_GateUpRefIdeal (hGateUpIdeal := Cert.GateUpIdeal.Gen.facts)
    (hGateUpRefIdeal := Cert.GateUpRefIdeal.Gen.facts) := by
  intro m g m' g' _ hargs
  refine ⟨fun c => Cert.GateUpIdeal.Value.G6 m c, fun c => Cert.GateUpIdeal.Value.G7 m c, Cert.GateUpIdeal.Value.run (F := Ideal) m g, ?_⟩
  refine (θ_run (Cert.GateUpRefIdeal.defs (F := Ideal)) _ _).mono (fun r h c => ?_) (Cert.GateUpRefIdeal.Value.run (F := Ideal) m' g')
  obtain ⟨h6, h7, h0, h1, h2, h3⟩ := h c
  obtain ⟨e0, e1, e2, e3⟩ := hargs c
  have x0 : (Cert.GateUpRefIdeal.Value.exitV m' c (Proc.devRef .tc Cert.GateUpRefIdeal.main_v0) : Cert.GateUp.Codes) = Cert.GateUp.A0 m c :=
    (Cert.GateUpRefIdeal.Value.exit_main_v0 m' c).trans ((Cert.GateUp.Ref.widened m' c).trans e0)
  have x1 : (Cert.GateUpRefIdeal.Value.exitV m' c (Proc.devRef .tc Cert.GateUpRefIdeal.main_arg1) : Cert.GateUp.Scales) = Cert.GateUp.A1 m c :=
    (Cert.GateUpRefIdeal.Value.exit_main_arg1 m' c).trans e1
  have x2 : (Cert.GateUpRefIdeal.Value.exitV m' c (Proc.devRef .tc Cert.GateUpRefIdeal.main_arg2) : Cert.GateUp.Packed) = Cert.GateUp.A2 m c :=
    (Cert.GateUpRefIdeal.Value.exit_main_arg2 m' c).trans e2
  have x3 : (Cert.GateUpRefIdeal.Value.exitV m' c (Proc.devRef .tc Cert.GateUpRefIdeal.main_arg3) : Cert.GateUp.GroupScales) = Cert.GateUp.A3 m c :=
    (Cert.GateUpRefIdeal.Value.exit_main_arg3 m' c).trans e3
  refine ⟨(h6.trans (Cert.GateUpRefIdeal.Read.val_main_v86_eq (F := Ideal) (Cert.GateUpRefIdeal.Value.exitV m' c))).trans ?_,
    (h7.trans (Cert.GateUpRefIdeal.Read.val_main_v89_eq (F := Ideal) (Cert.GateUpRefIdeal.Value.exitV m' c))).trans ?_, h0, h1, h2, h3⟩
  · have e : Cert.GateUpRefIdeal.Read.val_main_v86 (F := Ideal) (Cert.GateUp.A1 m c) (Cert.GateUp.A2 m c) (Cert.GateUp.A3 m c) (Cert.GateUp.A0 m c)
        = Cert.GateUpIdeal.Value.G6 m c := by
      funext y
      obtain ⟨r, j, rfl⟩ : ∃ (r : Fin 1536) (j : Fin 16384), y = ix2 r j := ⟨y 0, y 1, eq_ix2 y⟩
      exact (Cert.GateUp.Ref.hidden_eq _ _ _ _ r j).trans (Cert.GateUp.array_hidden m c r j).symm
    exact (congr (congr (congr (congrArg (Cert.GateUpRefIdeal.Read.val_main_v86 (F := Ideal)) x1) x2) x3) x0).trans e
  · have e : Cert.GateUpRefIdeal.Read.val_main_v89 (F := Ideal) (Cert.GateUp.A1 m c) (Cert.GateUp.A2 m c) (Cert.GateUp.A3 m c) (Cert.GateUp.A0 m c)
        = Cert.GateUpIdeal.Value.G7 m c := by
      funext y
      obtain ⟨r, l, rfl⟩ : ∃ (r : Fin 1536) (l : Fin 128), y = ix2 r l := ⟨y 0, y 1, eq_ix2 y⟩
      exact (Cert.GateUp.Ref.max_eq _ _ _ _ r l).trans (Cert.GateUp.array_max m c r l).symm
    exact (congr (congr (congr (congrArg (Cert.GateUpRefIdeal.Read.val_main_v89 (F := Ideal)) x1) x2) x3) x0).trans e

end Cert.Proof

end
-- ==== Proof.DownBlock.lean ====
/-
  Hand-written, untrusted. The dequantised weights that one grid point of the down kernel multiplies by.
-/
module

public import proofs.«01_k».proof.Proof.DownIdeal.Frame
public import proofs.«01_k».proof.Proof.Rows
public import Idealize.ShloMosaic.Lib.ValueLayout
public import Idealize.ShloMosaic.Lib.VecWindow

@[expose] public section

set_option maxRecDepth 65536

noncomputable section

namespace Cert.Down

open Cert.DownIdeal Cert.DownIdeal.Gen Idealize.ShloMosaic Idealize.ShloMosaic.TcCoe Idealize.SL.Sem

/-- The block of group scales as a matrix. -/
def flat (s : Vec Ideal S1x4x3072 .f32) : Vec Ideal S4x3072 .f32 := fun y => s (ix3 0 (y 0) (y 1))

/-- One point's weights, dequantised. -/
abbrev weights (q : Vec Ideal S256x3072 .i8) (s : Vec Ideal S1x4x3072 .f32) : S512x3072.Idx → EReal :=
  Int4.rows (N := 512) (R := 256) (S := 4) (n := 3072) rfl rfl q (flat s)

section Reads

variable (arg4 : Memref sig .tc .vmem S256x3072 .i8) (harg4 : arg4.IsWhole) (arg5 : Memref sig .tc .vmem S1x4x3072 .f32) (harg5 : arg5.IsWhole)
  (x2 : Vec Ideal S256x3072 .i8) (x3 : Vec Ideal S1x4x3072 .f32)

/-- A row of scales that the body loads is a row of the matrix. -/
theorem scale_row (g : ℕ)
    (hs : ∀ a, (![g, 0] : Fin 2 → ℕ) a + S1x3072.size a ≤ S4x3072.size a) :
    View.readAt (Elt Ideal) ((arg5.slice (Rect.unit (s := S1x4x3072) ![0, 0, 0] S1x4x3072.size inb_S1x4x3072_S1x4x3072_0_0_0) (fun _ => rfl)).squeeze S4x3072 squeezes_S1x4x3072_S4x3072).view
        (Rect.unit (s := S4x3072) ![g, 0] S1x3072.size hs).toLoadRect (harg5.unread x3)
      = View.ld (Val := Elt Ideal) (e' := .f32) (flat x3) (Rect.unit (s := S4x3072) ![g, 0] S1x3072.size hs) := by
  have e := Memref.read_squeeze_full (Val := Elt Ideal) arg5 inb_S1x4x3072_S1x4x3072_0_0_0 squeezes_S1x4x3072_S4x3072 (harg5.unread x3)
  refine (View.readAt_eq_ld _ _ _).trans (congrArg (fun X => View.ld (Val := Elt Ideal) (e' := .f32) X (Rect.unit (s := S4x3072) ![g, 0] S1x3072.size hs)) (e.trans ?_))
  rw [harg5.read_unread]
  funext y
  obtain ⟨r, j, rfl⟩ : ∃ (r : Fin 4) (j : Fin 3072), y = ix2 r j := ⟨y 0, y 1, eq_ix2 y⟩
  exact congrArg x3 (ValueIdx.reshapeEquiv_ix2_1ab _ r j)

/-- One stored block of the weight scratch, group `g`'s 128 rows, holds those rows of the weights. -/
theorem piece (q : Vec Ideal S256x3072 .i8) (s : Vec Ideal S4x3072 .f32) (o : ℕ)
    (hi : ∀ a, (![o, 0] : Fin 2 → ℕ) a + S128x3072.size a ≤ S512x3072.size a) (ho : o = 128 * (o / 128))
    (hq : ∀ a, (![o / 2, 0] : Fin 2 → ℕ) a + S64x3072.size a ≤ S256x3072.size a)
    (hs : ∀ a, (![o / 128, 0] : Fin 2 → ℕ) a + S1x3072.size a ≤ S4x3072.size a)
    (w : S128x3072.Idx → EReal)
    (hw : w = shapeCast S128x3072 (Int4.block (F := Ideal) 3072 bitcasts_S64x3072_w32_S128x3072_w16 broadcasts_S1x3072_S128x3072
      (View.ld (Val := Elt Ideal) (e' := .i8) q (Rect.unit ![o / 2, 0] S64x3072.size hq))
      (View.ld (Val := Elt Ideal) (e' := .f32) s (Rect.unit ![o / 128, 0] S1x3072.size hs))) shapeCasts_S128x3072_S128x3072) :
    ∀ x, w x = Int4.rows (N := 512) (R := 256) (S := 4) (n := 3072) rfl rfl q s ((Rect.unit (s := S512x3072) ![o, 0] S128x3072.size hi).emb x) :=
  Int4.piece rfl rfl q s (o / 128) o (o / 2) ho (by omega) hi hq hs _ _ _ w hw

variable (c : Dev nD)

theorem pieces : ∀ p ∈ kernelRun0_A.sl.HS1_4 (F := Ideal) c arg4 harg4 arg5 harg5 x2 x3, ∀ x, p.2 x = weights x2 x3 (p.1.emb x) := by
  have e4 : arg4.view.read (Elt Ideal) (harg4.unread x2) = x2 := harg4.read_unread x2
  have s0 : kernelRun0_A.sl.v16 (F := Ideal) c arg5 harg5 x3 = _ := scale_row arg5 harg5 x3 0 inb_S4x3072_S1x3072_0_0
  have s1 : kernelRun0_A.sl.v38 (F := Ideal) c arg5 harg5 x3 = _ := scale_row arg5 harg5 x3 1 inb_S4x3072_S1x3072_1_0
  have s2 : kernelRun0_A.sl.v60 (F := Ideal) c arg5 harg5 x3 = _ := scale_row arg5 harg5 x3 2 inb_S4x3072_S1x3072_2_0
  have s3 : kernelRun0_A.sl.v82 (F := Ideal) c arg5 harg5 x3 = _ := scale_row arg5 harg5 x3 3 inb_S4x3072_S1x3072_3_0
  unfold kernelRun0_A.sl.HS1_4 kernelRun0_A.sl.r_4 kernelRun0_A.sl.r_6 kernelRun0_A.sl.r_7
  rw [s0, s1, s2, s3]
  simp only [View.readAt_eq_ld, e4]
  refine List.forall_mem_cons.2 ⟨piece x2 (flat x3) 384 (by decide) (by decide) (by decide) (by decide) _ ?_, ?_⟩
  · unfold k0_pay42; simp only [shapeCast_self]; rfl
  refine List.forall_mem_cons.2 ⟨piece x2 (flat x3) 256 (by decide) (by decide) (by decide) (by decide) _ ?_, ?_⟩
  · unfold k0_pay41 k0_pay39 k0_pay40; simp only [shapeCast_self]; rfl
  refine List.forall_mem_cons.2 ⟨piece x2 (flat x3) 128 (by decide) (by decide) (by decide) (by decide) _ ?_, ?_⟩
  · unfold k0_pay38; simp only [shapeCast_self]; rfl
  refine List.forall_mem_cons.2 ⟨piece x2 (flat x3) 0 (by decide) (by decide) (by decide) (by decide) _ ?_, ?_⟩
  · unfold k0_pay37 k0_pay36; simp only [shapeCast_self]; rfl
  exact fun p hp => absurd hp List.not_mem_nil

/-- What the matmul reads of the weight scratch is the dequantised weights. -/
theorem read_A (arg10 : Memref sig .tc .vmem S512x3072 .bf16) : kernelRun0_A.sl.v103 (F := Ideal) c arg4 harg4 arg5 harg5 arg10 x2 x3 = weights x2 x3 := by
  have hc : ∀ y, ∃ p ∈ kernelRun0_A.sl.HS1_4 (F := Ideal) c arg4 harg4 arg5 harg5 x2 x3, y ∈ p.1.set :=
    View.cover_of_tiledL _ S128x3072.size (by sl_kernel_rfl)
  unfold kernelRun0_A.sl.v103
  rw [View.readCov_eq_canon_ld _ _ _ hc, View.ld_unit_zero (by decide)]
  funext y
  exact View.canon_apply_of_pieces _ _ (pieces arg4 harg4 arg5 harg5 x2 x3 c) y (hc y)

theorem read_B (arg10 : Memref sig .tc .vmem S512x3072 .bf16) : kernelRun0_B.sl.v103 (F := Ideal) c arg4 harg4 arg5 harg5 arg10 x2 x3 = weights x2 x3 :=
  read_A arg4 harg4 arg5 harg5 x2 x3 c arg10

theorem read_C (arg10 : Memref sig .tc .vmem S512x3072 .bf16) : kernelRun0_C.sl.v103 (F := Ideal) c arg4 harg4 arg5 harg5 arg10 x2 x3 = weights x2 x3 :=
  read_A arg4 harg4 arg5 harg5 x2 x3 c arg10

end Reads

end Cert.Down

end
-- ==== Proof.DownScale.lean ====
/-
  Hand-written, untrusted. The power of two that scales a row: found by doubling under comparison, and by the logarithm.
-/
module

public import Idealize.ShloMosaic.Lib.Pipeline.Value
public import Idealize.ShloMosaic.Lib.IdealHost

@[expose] public section

noncomputable section

namespace Cert.Down

open Idealize.ShloMosaic

/-- The power of two with exponent `k`, as an exact number. -/
def two (k : ℤ) : EReal := (((2 : ℝ) ^ k : ℝ) : EReal)

theorem two_mul (j k : ℤ) : two j * two k = two (j + k) := by
  unfold two
  rw [← EReal.coe_mul, ← zpow_add₀ (by norm_num)]

theorem two_le {j k : ℤ} : two j ≤ two k ↔ j ≤ k := by
  unfold two
  rw [EReal.coe_le_coe_iff]
  exact zpow_le_zpow_iff_right₀ (by norm_num)

theorem two_lt {j k : ℤ} : two j < two k ↔ j < k := by
  unfold two
  rw [EReal.coe_lt_coe_iff]
  exact zpow_lt_zpow_iff_right₀ (by norm_num)

/-- The rows that are scaled: the value lies in the range of exponents that the format has. -/
def Plain (v : EReal) : Prop := two (-126) ≤ v ∧ v < two 120

/-- The exponent of the largest power of two that does not exceed a positive value. -/
def binade (v : EReal) : ℤ := ⌊Real.log v.toReal / Real.log 2⌋

/-- The exponent of the smallest power of two above the value. -/
def exponent (v : EReal) : ℤ := binade v + 1

open Classical in
/-- The scale of a row. -/
def scaleOf (v : EReal) : EReal := if Plain v then two (exponent v) else 1

open Classical in
/-- Its inverse. -/
def invOf (v : EReal) : EReal := if Plain v then two (-exponent v) else 1

theorem plain_real {v : EReal} (h : Plain v) : ∃ r : ℝ, v = (r : EReal) ∧ 0 < r := by
  obtain ⟨h0, h1⟩ := h
  have hb : v ≠ ⊥ := fun e => by rw [e] at h0; exact absurd h0 (not_le.2 (EReal.bot_lt_coe _))
  have ht : v ≠ ⊤ := fun e => by rw [e] at h1; exact absurd h1 (not_lt.2 le_top)
  refine ⟨v.toReal, (EReal.coe_toReal ht hb).symm, ?_⟩
  rw [← EReal.coe_toReal ht hb] at h0
  exact lt_of_lt_of_le (by positivity) (EReal.coe_le_coe_iff.1 h0)

theorem log_two_pos : (0 : ℝ) < Real.log 2 := Real.log_pos (by norm_num)

/-- The value lies between two powers of two that follow one another. -/
theorem between {v : EReal} (h : Plain v) : two (binade v) ≤ v ∧ v < two (binade v + 1) := by
  obtain ⟨r, rfl, hr⟩ := plain_real h
  have hz : ∀ k : ℤ, (0 : ℝ) < (2 : ℝ) ^ k := fun k => by positivity
  unfold binade two
  rw [EReal.toReal_coe]
  constructor
  · refine EReal.coe_le_coe_iff.2 ((Real.log_le_log_iff (hz _) hr).1 ?_)
    rw [Real.log_zpow]
    exact (le_div_iff₀ log_two_pos).1 (Int.floor_le _)
  · refine EReal.coe_lt_coe_iff.2 ((Real.log_lt_log_iff hr (hz _)).1 ?_)
    rw [Real.log_zpow]
    refine (div_lt_iff₀ log_two_pos).1 ?_
    push_cast
    exact Int.lt_floor_add_one _

/-! ## By comparison -/

open Classical in
/-- One step up: by `s` binades if the value reaches that far. -/
def up (v : EReal) (s : ℤ) (p : EReal) : EReal := if p * two s ≤ v then p * two s else p

open Classical in
/-- The inverse follows. -/
def upInv (v : EReal) (s : ℤ) (p q : EReal) : EReal := if p * two s ≤ v then q * two (-s) else q

/-- `p` and `q` are a power of two and its inverse, fewer than `R` binades below the value's. -/
def Near (v : EReal) (R : ℤ) (p q : EReal) : Prop :=
  ∃ j : ℤ, p = two j ∧ q = two (-j) ∧ j ≤ binade v ∧ binade v < j + R

theorem near_up {v : EReal} (h : Plain v) {R R' s : ℤ} {p q : EReal} (hn : Near v R p q) (h1 : R - s ≤ R') (h2 : s ≤ R') :
    Near v R' (up v s p) (upInv v s p q) := by
  obtain ⟨j, rfl, rfl, hj, hR⟩ := hn
  obtain ⟨b0, b1⟩ := between h
  unfold up upInv
  rw [two_mul]
  by_cases hc : two (j + s) ≤ v
  · have : j + s ≤ binade v := by
      have := two_lt.1 (lt_of_le_of_lt hc b1)
      omega
    rw [if_pos hc, if_pos hc, two_mul]
    exact ⟨j + s, rfl, congrArg two (by omega), this, by omega⟩
  · have : binade v < j + s := by
      by_contra hlt
      exact hc ((two_le.2 (not_lt.1 hlt)).trans b0)
    rw [if_neg hc, if_neg hc]
    exact ⟨j, rfl, rfl, hj, by omega⟩

theorem near_start {v : EReal} (h : Plain v) : Near v 246 (two (-126)) (two 126) := by
  obtain ⟨b0, b1⟩ := between h
  refine ⟨-126, rfl, rfl, ?_, ?_⟩
  · have := two_lt.1 (lt_of_le_of_lt h.1 b1)
    omega
  · have := two_lt.1 (lt_of_le_of_lt b0 h.2)
    omega

theorem near_end {v p q : EReal} (hn : Near v 1 p q) : p * two 1 = two (exponent v) ∧ q * two (-1) = two (-exponent v) := by
  obtain ⟨j, rfl, rfl, hj, hR⟩ := hn
  have : binade v = j := by omega
  unfold exponent
  rw [two_mul, two_mul, this]
  exact ⟨rfl, congrArg two (by omega)⟩

/-! ## By the logarithm -/

/-- Two to an integer power, by the power function of the exact numbers. -/
theorem pow_two (k : ℤ) : Ideal.pow ((2 : ℝ) : EReal) (((k : ℤ) : ℝ) : EReal) = two k := by
  show ((Real.rpow 2 (k : ℝ) : ℝ) : EReal) = _
  unfold two
  exact congrArg _ (Real.rpow_intCast 2 k)

/-- The exponent, from the logarithms. -/
theorem exponent_log {v : EReal} (h : Plain v) :
    Ideal.liftRound Int.floor (Ideal.div (Ideal.log v) (Ideal.log ((2 : ℝ) : EReal))) + 1 = (((exponent v : ℤ) : ℝ) : EReal) := by
  obtain ⟨r, rfl, hr⟩ := plain_real h
  have h2 : Ideal.log ((2 : ℝ) : EReal) = ((Real.log 2 : ℝ) : EReal) := if_neg (by norm_num)
  have hl : Ideal.log ((r : ℝ) : EReal) = ((Real.log r : ℝ) : EReal) := if_neg (not_le.2 hr)
  have hd : Ideal.div ((Real.log r : ℝ) : EReal) ((Real.log 2 : ℝ) : EReal) = ((Real.log r / Real.log 2 : ℝ) : EReal) := by
    unfold Ideal.div
    rw [if_neg (by exact_mod_cast log_two_pos.ne'), ← EReal.coe_inv, ← EReal.coe_mul, div_eq_mul_inv]
  rw [h2, hl, hd]
  show (((⌊Real.log r / Real.log 2⌋ : ℤ) : ℝ) : EReal) + 1 = _
  unfold exponent binade
  rw [EReal.toReal_coe]
  push_cast
  rfl

end Cert.Down

end
-- ==== Proof.DownSpec.lean ====
/-
  Hand-written, untrusted. What the down projection computes, over exact numbers.
-/
module

public import proofs.«01_k».proof.Proof.Rows
public import proofs.«01_k».proof.Proof.DownScale

@[expose] public section

noncomputable section

namespace Cert.Down

open Idealize.ShloMosaic

abbrev Hidden := (⟨2, ![1536, 16384]⟩ : Shape).Idx → EReal
abbrev Maxima := (⟨2, ![1536, 128]⟩ : Shape).Idx → EReal
abbrev Packed := Vec Ideal ⟨2, ![8192, 6144]⟩ .i8
abbrev GroupScales := Vec Ideal ⟨2, ![128, 6144]⟩ .f32

/-- The whole weight matrix, dequantised. -/
abbrev weight (Q : Packed) (S : GroupScales) : (⟨2, ![16384, 6144]⟩ : Shape).Idx → EReal :=
  Int4.rows (N := 16384) (R := 8192) (S := 128) (n := 6144) rfl rfl Q S

/-- The largest of a row's maxima, divided by 448 (the constant is the float nearest to the quotient). -/
def value (A : Maxima) (r : Fin 1536) : EReal :=
  (Finset.univ : Finset (Fin 128)).fold max ⊥ (fun l => A (ix2 r l)) * Ideal.ofBits .f32 0x3B124925#32

/-- The row's scale. -/
def scale (A : Maxima) (r : Fin 1536) : EReal := scaleOf (value A r)

/-- Its inverse. -/
def inverse (A : Maxima) (r : Fin 1536) : EReal := invOf (value A r)

/-- Clipping to the range of the codes. -/
def clip (x : EReal) : EReal := min (Ideal.ofBits .f32 0x43E00000#32) (max (Ideal.ofBits .f32 0xC3E00000#32) x)

/-- One code. -/
def code (H : Hidden) (A : Maxima) (r : Fin 1536) (k : Fin 16384) : EReal := clip (H (ix2 r k) * inverse A r)

/-- One product of the contraction. -/
def term (H : Hidden) (A : Maxima) (Q : Packed) (S : GroupScales) (r : Fin 1536) (j : Fin 6144) (k : ℕ) : EReal :=
  if h : k < 16384 then code H A r ⟨k, h⟩ * weight Q S (ix2 ⟨k, h⟩ j) else 0

/-- The contraction over the first `n` blocks of 512. -/
def partialSum (H : Hidden) (A : Maxima) (Q : Packed) (S : GroupScales) (r : Fin 1536) (j : Fin 6144) (n : ℕ) : EReal :=
  ∑ k ∈ Finset.range (512 * n), term H A Q S r j k

theorem partialSum_succ (H : Hidden) (A : Maxima) (Q : Packed) (S : GroupScales) (r : Fin 1536) (j : Fin 6144) (n : ℕ) :
    partialSum H A Q S r j (n + 1) = partialSum H A Q S r j n + ∑ k : Fin 512, term H A Q S r j (512 * n + k.val) := by
  unfold partialSum
  rw [show 512 * (n + 1) = 512 * n + 512 by ring, Finset.sum_range_add, Finset.sum_range (n := 512)]

/-- One entry of the result. -/
def result (H : Hidden) (A : Maxima) (Q : Packed) (S : GroupScales) (r : Fin 1536) (j : Fin 6144) : EReal :=
  (∑ k : Fin 16384, code H A r k * weight Q S (ix2 k j)) * scale A r

theorem sum_all (n : ℕ) (f : Fin n → EReal) (g : ℕ → EReal) (h : ∀ k : Fin n, g k.val = f k) : ∑ k ∈ Finset.range n, g k = ∑ k : Fin n, f k :=
  (Finset.sum_range g).trans (Finset.sum_congr rfl fun k _ => h k)

theorem partialSum_all (H : Hidden) (A : Maxima) (Q : Packed) (S : GroupScales) (r : Fin 1536) (j : Fin 6144) :
    partialSum H A Q S r j 32 * scale A r = result H A Q S r j :=
  congrArg (· * scale A r) (sum_all 16384 (fun k => code H A r k * weight Q S (ix2 k j)) (term H A Q S r j) fun k => dif_pos k.isLt)

end Cert.Down

end
-- ==== Proof.DownStep.lean ====
/-
  Hand-written, untrusted. What one grid point of the down kernel leaves in its outputs and in the carried scratch.
-/
module

public import proofs.«01_k».proof.Proof.DownBlock
public import proofs.«01_k».proof.Proof.DownSpec
public import Idealize.ShloMosaic.Lib.MatmulPlain

@[expose] public section

set_option maxRecDepth 65536

noncomputable section

namespace Cert.Down

open Cert.DownIdeal Cert.DownIdeal.Gen Idealize.ShloMosaic Idealize.ShloMosaic.TcCoe Idealize.SL.Sem

/-- The inverse scales that the first point of a sweep stores. -/
abbrev invBlock (a : Vec Ideal S1536x128 .f32) : Vec Ideal S1536x1 .f32 :=
  k0_pay32 (F := Ideal) (k0_pay3 a) (k0_pay19 a) (k0_pay20 a) k0_pay21

/-- The scales that the first point of a sweep stores. -/
abbrev scaleBlock (a : Vec Ideal S1536x128 .f32) : Vec Ideal S1536x1 .f32 :=
  k0_pay31 (F := Ideal) (k0_pay3 a) (k0_pay19 a) k0_pay21

/-- The accumulator after a point. -/
abbrev next (acc : Vec Ideal S1536x3072 .f32) (h : Vec Ideal S1536x512 .f32) (inv : Vec Ideal S1536x1 .f32) (q : Vec Ideal S256x3072 .i8) (s : Vec Ideal S1x4x3072 .f32) :
    Vec Ideal S1536x3072 .f32 :=
  k0_pay1 (F := Ideal) acc (k0_pay43 (F := Ideal) (k0_pay35 (F := Ideal) h inv) (weights q s))

section Cases

variable (c : Dev nD) (i : grid0.Coords) (arg2 : Memref sig .tc .vmem S1536x512 .f32) (harg2 : arg2.IsWhole) (arg3 : Memref sig .tc .vmem S1536x128 .f32) (harg3 : arg3.IsWhole)
  (arg4 : Memref sig .tc .vmem S256x3072 .i8) (harg4 : arg4.IsWhole) (arg5 : Memref sig .tc .vmem S1x4x3072 .f32) (harg5 : arg5.IsWhole)
  (arg6 : Memref sig .tc .vmem S1536x3072 .bf16) (harg6 : arg6.IsWhole) (arg7 : Memref sig .tc .vmem S1536x512 .fp8e4m3) (harg7 : arg7.IsWhole)
  (arg8 : Memref sig .tc .vmem S1536x1 .f32) (harg8 : arg8.IsWhole) (arg9 : Memref sig .tc .vmem S1536x3072 .f32) (harg9 : arg9.IsWhole)
  (arg10 : Memref sig .tc .vmem S512x3072 .bf16) (harg10 : arg10.IsWhole) (arg11 : Memref sig .tc .vmem S1536x1 .f32) (harg11 : arg11.IsWhole)
  (x0 : Vec Ideal S1536x512 .f32) (x1 : Vec Ideal S1536x128 .f32) (x2 : Vec Ideal S256x3072 .i8) (x3 : Vec Ideal S1x4x3072 .f32)
  (xo6 : Vec Ideal S1536x1 .f32) (xs0 : Vec Ideal S1536x3072 .f32) (xs2 : Vec Ideal S1536x1 .f32)

theorem maxima_A : View.readAt (Elt Ideal) arg3.view (Rect.unit ![0, 0] S1536x128.size inb_S1536x128_S1536x128_0_0).toLoadRect (harg3.unread x1) = x1 := by
  rw [View.readAt_eq_ld, harg3.read_unread, View.ld_unit_zero (by decide)]

theorem hidden_in : View.readAt (Elt Ideal) arg2.view (Rect.unit ![0, 0] S1536x512.size inb_S1536x512_S1536x512_0_0).toLoadRect (harg2.unread x0) = x0 := by
  rw [View.readAt_eq_ld, harg2.read_unread, View.ld_unit_zero (by decide)]

theorem inv_in : View.readAt (Elt Ideal) arg11.view (Rect.unit ![0, 0] S1536x1.size inb_S1536x1_S1536x1_0_0).toLoadRect (harg11.unread xs2) = xs2 := by
  rw [View.readAt_eq_ld, harg11.read_unread, View.ld_unit_zero (by decide)]

theorem acc_in : View.readAt (Elt Ideal) arg9.view (Rect.unit ![0, 0] S1536x3072.size inb_S1536x3072_S1536x3072_0_0).toLoadRect (harg9.unread xs0) = xs0 := by
  rw [View.readAt_eq_ld, harg9.read_unread, View.ld_unit_zero (by decide)]

theorem inv_A : kernelRun0_A.sl.v4 (F := Ideal) c arg3 harg3 arg11 x1 = invBlock x1 := by
  unfold kernelRun0_A.sl.v4 kernelRun0_A.sl.HS2_1 kernelRun0_A.sl.r kernelRun0_A.sl.r_1 kernelRun0_A.sl.r_2
  rw [maxima_A]
  exact View.readCov_unit_zero _ (by decide) _ _

theorem out_A_5 (hc0 : cond0_0 i) (hc1 : ¬ cond0_1 i) :
    out0_A_5 (F := Ideal) c i arg2 harg2 arg3 harg3 arg4 harg4 arg5 harg5 arg6 harg6 arg7 harg7 arg8 harg8 arg9 harg9 arg10 harg10 arg11 harg11 hc0 hc1 x0 x1 x2 x3
      = k0_pay35 (F := Ideal) x0 (invBlock x1) := by
  unfold out0_A_5 kernelRun0_A
  dsimp only
  rw [View.read_writes_junk_eq_canon, View.canon_unit_zero (by decide), inv_A]
  exact congrArg (fun z => k0_pay35 (F := Ideal) z (invBlock x1)) (hidden_in arg2 harg2 x0)

theorem out_A_6 (hc0 : cond0_0 i) (hc1 : ¬ cond0_1 i) :
    out0_A_6 (F := Ideal) c i arg2 harg2 arg3 harg3 arg4 harg4 arg5 harg5 arg6 harg6 arg7 harg7 arg8 harg8 arg9 harg9 arg10 harg10 arg11 harg11 hc0 hc1 x0 x1 x2 x3
      = scaleBlock x1 := by
  unfold out0_A_6 kernelRun0_A
  dsimp only
  rw [View.read_writes_junk_eq_canon, View.canon_unit_zero (by decide)]
  unfold kernelRun0_A.sl.r kernelRun0_A.sl.r_1
  rw [maxima_A]

theorem sout_A_2 (hc0 : cond0_0 i) (hc1 : ¬ cond0_1 i) :
    sout0_A_2 (F := Ideal) c i arg2 harg2 arg3 harg3 arg4 harg4 arg5 harg5 arg6 harg6 arg7 harg7 arg8 harg8 arg9 harg9 arg10 harg10 arg11 harg11 hc0 hc1 x0 x1 x2 x3
      = invBlock x1 := by
  unfold sout0_A_2 kernelRun0_A
  dsimp only
  unfold kernelRun0_A.sl.HS2_1 kernelRun0_A.sl.r kernelRun0_A.sl.r_1 kernelRun0_A.sl.r_2
  rw [View.read_writes_junk_eq_canon, View.canon_unit_zero (by decide), maxima_A]

theorem sout_A_0 (hc0 : cond0_0 i) (hc1 : ¬ cond0_1 i) :
    sout0_A_0 (F := Ideal) c i arg2 harg2 arg3 harg3 arg4 harg4 arg5 harg5 arg6 harg6 arg7 harg7 arg8 harg8 arg9 harg9 arg10 harg10 arg11 harg11 hc0 hc1 x0 x1 x2 x3
      = next (k0_pay34 (F := Ideal) k0_pay33) x0 (invBlock x1) x2 x3 := by
  have e : kernelRun0_A.sl.v101 (F := Ideal) c arg9 = k0_pay34 (F := Ideal) k0_pay33 := by
    unfold kernelRun0_A.sl.v101 kernelRun0_A.sl.HS0_1
    exact View.readCov_unit_zero _ (by decide) _ _
  unfold sout0_A_0 kernelRun0_A
  dsimp only
  rw [View.read_writes_junk_eq_canon, View.canon_cons_unit_zero (by decide), e]
  unfold kernelRun0_A.sl.r_8 kernelRun0_A.sl.r_3
  rw [read_A, inv_A, hidden_in]

theorem out_B_5 (hc0 : ¬ cond0_0 i) (hc1 : ¬ cond0_1 i) :
    out0_B_5 (F := Ideal) c i arg2 harg2 arg3 harg3 arg4 harg4 arg5 harg5 arg6 harg6 arg7 harg7 arg8 harg8 arg9 harg9 arg10 harg10 arg11 harg11 hc0 hc1 x0 x1 x2 x3 xs0 xs2
      = k0_pay35 (F := Ideal) x0 xs2 := by
  unfold out0_B_5 kernelRun0_B
  dsimp only
  rw [View.read_writes_junk_eq_canon, View.canon_unit_zero (by decide)]
  exact congrArg₂ (k0_pay35 (F := Ideal)) (hidden_in arg2 harg2 x0) (inv_in arg11 harg11 xs2)

theorem sout_B_0 (hc0 : ¬ cond0_0 i) (hc1 : ¬ cond0_1 i) :
    sout0_B_0 (F := Ideal) c i arg2 harg2 arg3 harg3 arg4 harg4 arg5 harg5 arg6 harg6 arg7 harg7 arg8 harg8 arg9 harg9 arg10 harg10 arg11 harg11 hc0 hc1 x0 x1 x2 x3 xs0 xs2
      = next xs0 x0 xs2 x2 x3 := by
  unfold sout0_B_0 kernelRun0_B
  dsimp only
  rw [View.read_writes_junk_eq_canon, View.canon_unit_zero (by decide)]
  unfold kernelRun0_B.sl.r_5 kernelRun0_B.sl.r_6 kernelRun0_B.sl.r
  rw [read_B, hidden_in, inv_in, acc_in]

theorem out_C_5 (hc0 : ¬ cond0_0 i) (hc1 : cond0_1 i) :
    out0_C_5 (F := Ideal) c i arg2 harg2 arg3 harg3 arg4 harg4 arg5 harg5 arg6 harg6 arg7 harg7 arg8 harg8 arg9 harg9 arg10 harg10 arg11 harg11 hc0 hc1 x0 x1 x2 x3 xo6 xs0 xs2
      = k0_pay35 (F := Ideal) x0 xs2 := by
  unfold out0_C_5 kernelRun0_C
  dsimp only
  rw [View.read_writes_junk_eq_canon, View.canon_unit_zero (by decide)]
  exact congrArg₂ (k0_pay35 (F := Ideal)) (hidden_in arg2 harg2 x0) (inv_in arg11 harg11 xs2)

theorem sout_C_0 (hc0 : ¬ cond0_0 i) (hc1 : cond0_1 i) :
    sout0_C_0 (F := Ideal) c i arg2 harg2 arg3 harg3 arg4 harg4 arg5 harg5 arg6 harg6 arg7 harg7 arg8 harg8 arg9 harg9 arg10 harg10 arg11 harg11 hc0 hc1 x0 x1 x2 x3 xo6 xs0 xs2
      = next xs0 x0 xs2 x2 x3 := by
  unfold sout0_C_0 kernelRun0_C
  dsimp only
  unfold kernelRun0_C.sl.HS0_1
  rw [View.read_writes_junk_eq_canon, View.canon_unit_zero (by decide)]
  unfold kernelRun0_C.sl.r_5 kernelRun0_C.sl.r_6 kernelRun0_C.sl.r
  rw [read_C, hidden_in, inv_in, acc_in]

theorem out_C_4 (hc0 : ¬ cond0_0 i) (hc1 : cond0_1 i) :
    out0_C_4 (F := Ideal) c i arg2 harg2 arg3 harg3 arg4 harg4 arg5 harg5 arg6 harg6 arg7 harg7 arg8 harg8 arg9 harg9 arg10 harg10 arg11 harg11 hc0 hc1 x0 x1 x2 x3 xo6 xs0 xs2
      = k0_pay2 (F := Ideal) (next xs0 x0 xs2 x2 x3) xo6 := by
  have e : kernelRun0_C.sl.v112 (F := Ideal) c arg2 harg2 arg4 harg4 arg5 harg5 arg9 harg9 arg10 arg11 harg11 x0 x2 x3 xs0 xs2 = next xs0 x0 xs2 x2 x3 := by
    unfold kernelRun0_C.sl.v112 kernelRun0_C.sl.HS0_1
    refine (View.readCov_unit_zero _ (by decide) _ _).trans ?_
    unfold kernelRun0_C.sl.r_5 kernelRun0_C.sl.r_6 kernelRun0_C.sl.r
    rw [read_C, hidden_in, inv_in, acc_in]
  unfold out0_C_4 kernelRun0_C
  dsimp only
  rw [View.read_writes_junk_eq_canon, View.canon_unit_zero (by decide), e]
  exact congrArg (k0_pay2 (F := Ideal) _) (inv_in arg8 harg8 xo6)

end Cases

/-! ## The stored values, entry by entry -/

theorem codes_apply (h : Vec Ideal S1536x512 .f32) (inv : Vec Ideal S1536x1 .f32) (r : Fin 1536) (k : Fin 512) :
    k0_pay35 (F := Ideal) h inv (ix2 r k) = clip (h (ix2 r k) * inv (ix2 r 0)) := by
  have e : broadcastTo S1536x512 inv broadcasts_S1536x1_S1536x512 (ix2 r k) = inv (ix2 r 0) := by
    refine congrArg inv (funext fun a => Fin.ext ?_)
    match a with
    | ⟨0, _⟩ => rfl
    | ⟨1, _⟩ => rfl
  rw [← e]
  rfl

theorem next_apply (acc : Vec Ideal S1536x3072 .f32) (h : Vec Ideal S1536x512 .f32) (inv : Vec Ideal S1536x1 .f32) (q : Vec Ideal S256x3072 .i8) (s : Vec Ideal S1x4x3072 .f32)
    (r : Fin 1536) (j : Fin 3072) :
    next acc h inv q s (ix2 r j) = acc (ix2 r j) + ∑ k : Fin 512, clip (h (ix2 r k) * inv (ix2 r 0)) * weights q s (ix2 k j) := by
  unfold next k0_pay1
  simp only [shapeCast_self]
  refine congrArg (acc (ix2 r j) + ·) ?_
  unfold k0_pay43
  refine (Ideal.matmul_plain_apply (M := 1536) (K := 512) (N := 3072) (φ₁ := .bf16) (φ₂ := .bf16) none _ (weights q s) (constant S1536x3072 .f32 0x00000000#32) r j).trans ?_
  rw [show (constant (F := Ideal) S1536x3072 .f32 0x00000000#32) (ValueIdx.ix2 r j) = (0 : EReal) from Ideal.ofBits_zero_f32, zero_add]
  exact Finset.sum_congr rfl fun k _ => congrArg (· * _) (codes_apply h inv r k)

theorem result_apply (acc : Vec Ideal S1536x3072 .f32) (sc : Vec Ideal S1536x1 .f32) (r : Fin 1536) (j : Fin 3072) :
    k0_pay2 (F := Ideal) acc sc (ix2 r j) = acc (ix2 r j) * sc (ix2 r 0) := by
  unfold k0_pay2
  simp only [shapeCast_self]
  refine congrArg (acc (ix2 r j) * ·) (congrArg sc (funext fun a => Fin.ext ?_))
  match a with
  | ⟨0, _⟩ => rfl
  | ⟨1, _⟩ => rfl

theorem start_apply (r : Fin 1536) (j : Fin 3072) : k0_pay34 (F := Ideal) k0_pay33 (ix2 r j) = 0 := by
  unfold k0_pay34
  simp only [shapeCast_self]
  exact Ideal.ofBits_zero_f32

end Cert.Down

end
-- ==== Proof.DownPow.lean ====
/-
  Hand-written, untrusted. The scale and its inverse, as the first point of a sweep computes them from the maxima.
-/
module

public import proofs.«01_k».proof.Proof.DownStep
public import Idealize.ShloMosaic.PureOps.Ideal.Laws

@[expose] public section

set_option maxRecDepth 65536

noncomputable section

namespace Cert.Down

open Cert.DownIdeal Cert.DownIdeal.Gen Idealize.ShloMosaic Idealize.ShloMosaic.TcCoe Idealize.SL.Sem

/-- The float word with sign 0, exponent field `k + 127` and fraction 0 is `2^k`. -/
theorem ofBits_two (b : BitVec 32) (k : ℤ) (hs : b.extractLsb' 31 1 = 0#1 := by decide) (hf : (b.extractLsb' 0 23).toNat = 0 := by decide)
    (he : ((b.extractLsb' 23 8).toNat : ℤ) = k + 127 := by decide) (h0 : (b.extractLsb' 23 8).toNat ≠ 0 := by decide)
    (h1 : (b.extractLsb' 23 8).toNat ≠ 255 := by decide) :
    Ideal.ofBits .f32 b = two k := by
  show Ideal.ieee 8 23 b = _
  unfold Ideal.ieee two
  dsimp only
  rw [if_neg (by norm_num; exact h1), if_neg h0, he, hf]
  have hn : (b.extractLsb' (8 + 23) 1 == 1#1) = false := by
    show (b.extractLsb' 31 1 == 1#1) = false
    rw [hs]; rfl
  rw [hn]
  refine congrArg (fun z : ℝ => (z : EReal)) ?_
  rw [if_neg (by decide)]
  have e : k + 127 - (2 ^ (8 - 1) - 1) - ((23 : ℕ) : ℤ) = k - 23 := by norm_num
  rw [e, zpow_sub₀ (by norm_num)]
  norm_num
  field_simp

/-- The largest maximum of a row times the constant. -/
theorem value_apply (a : Vec Ideal S1536x128 .f32) (r : Fin 1536) : k0_pay3 (F := Ideal) a (ix2 r 0) = value a r := by
  unfold k0_pay3
  dsimp only
  refine congrArg (· * Ideal.ofBits .f32 0x3B124925#32) ?_
  refine (shapeCast_apply _ shapeCasts_S1536_S1536x1 (ix2 r 0) (ValueIdx.ix1 r) (by
    rw [Shape.rowMajor_val_one, Shape.rowMajor_val_two]
    show r.val = r.val * 1 + 0
    omega)).trans ?_
  refine (Ideal.multiReduction_maximumf_single (φ := .f32) a 0xFF800000#32 reduces_S1536x128_S1536 (.inl rfl) rfl (ValueIdx.ix1 r)).trans ?_
  have e0 : (FloatOps.ofBits .f32 0xFF800000#32 : Ideal .f32) = (⊥ : EReal) := by
    show Ideal.ofBits .f32 0xFF800000#32 = ⊥
    simp [Ideal.ofBits, Ideal.ieee]
  rw [e0]
  refine congrArg (fun f => (Finset.univ : Finset (Fin 128)).fold max ⊥ f) (funext fun l => congrArg a (funext fun z => Fin.ext ?_))
  match z with
  | ⟨0, _⟩ => rfl
  | ⟨1, _⟩ => rfl

/-- One step of the chain of comparisons, on whole columns. -/
theorem near_select (V P Q : FVec Ideal S1536x1 .f32) (b d : BitVec 32) (s R R' : ℤ) (hb : Ideal.ofBits .f32 b = two s) (hd : Ideal.ofBits .f32 d = two (-s))
    (x : S1536x1.Idx) (h : Plain (V x)) (hn : Near (V x) R (P x) (Q x)) (h1 : R - s ≤ R') (h2 : s ≤ R') :
    Near (V x) R' (select (cmpf .oge V (mulf P (broadcast S1536x1 (Scalar.ofBits (F := Ideal) .f32 b)))) (mulf P (broadcast S1536x1 (Scalar.ofBits (F := Ideal) .f32 b))) P x)
      (select (cmpf .oge V (mulf P (broadcast S1536x1 (Scalar.ofBits (F := Ideal) .f32 b)))) (mulf Q (broadcast S1536x1 (Scalar.ofBits (F := Ideal) .f32 d))) Q x) := by
  have key := near_up h hn h1 h2
  have e1 : select (cmpf .oge V (mulf P (broadcast S1536x1 (Scalar.ofBits (F := Ideal) .f32 b)))) (mulf P (broadcast S1536x1 (Scalar.ofBits (F := Ideal) .f32 b))) P x = up (V x) s (P x) := by
    show Scalar.select (BitVec.ofBool (decide (P x * Ideal.ofBits .f32 b ≤ V x))) (P x * Ideal.ofBits .f32 b) (P x) = _
    rw [hb]
    unfold up Scalar.select
    by_cases hc : P x * two s ≤ V x <;> simp [hc]
  have e2 : select (cmpf .oge V (mulf P (broadcast S1536x1 (Scalar.ofBits (F := Ideal) .f32 b)))) (mulf Q (broadcast S1536x1 (Scalar.ofBits (F := Ideal) .f32 d))) Q x = upInv (V x) s (P x) (Q x) := by
    show Scalar.select (BitVec.ofBool (decide (P x * Ideal.ofBits .f32 b ≤ V x))) (Q x * Ideal.ofBits .f32 d) (Q x) = _
    rw [hb, hd]
    unfold upInv Scalar.select
    by_cases hc : P x * two s ≤ V x <;> simp [hc]
  rw [e1, e2]
  exact key

/-- The kernel's test for the range in which the scale is a power of two. -/
theorem plain_apply (V : FVec Ideal S1536x1 .f32) (x : S1536x1.Idx) : (k0_pay30 (F := Ideal) V x = 1#1) ↔ Plain (V x) := by
  have e0 : Ideal.ofBits .f32 0x00800000#32 = two (-126) := ofBits_two _ _
  have e1 : Ideal.ofBits .f32 0x7B800000#32 = two 120 := ofBits_two _ _
  show BitVec.ofBool (decide (Ideal.ofBits .f32 0x00800000#32 ≤ V x)) &&& BitVec.ofBool (decide (V x < Ideal.ofBits .f32 0x7B800000#32)) = 1#1 ↔ _
  rw [e0, e1]
  unfold Plain
  by_cases h0 : two (-126) ≤ V x <;> by_cases h1 : V x < two 120 <;> simp [h0, h1]

/-- After the eight comparisons: the largest power of two not above the value, and its inverse. -/
theorem near_all (a : Vec Ideal S1536x128 .f32) (x : S1536x1.Idx) (h : Plain (k0_pay3 (F := Ideal) a x)) :
    k0_pay31 (F := Ideal) (k0_pay3 a) (k0_pay19 a) k0_pay21 x = two (exponent (k0_pay3 (F := Ideal) a x))
    ∧ k0_pay32 (F := Ideal) (k0_pay3 a) (k0_pay19 a) (k0_pay20 a) k0_pay21 x = two (-exponent (k0_pay3 (F := Ideal) a x)) := by
  have s0 : Near (k0_pay3 (F := Ideal) a x) 246 (k0_pay4 (F := Ideal) x) (broadcast S1536x1 (Scalar.ofBits (F := Ideal) .f32 0x7E800000#32) x) := by
    rw [show k0_pay4 (F := Ideal) x = two (-126) from ofBits_two 0x00800000#32 (-126),
      show broadcast S1536x1 (Scalar.ofBits (F := Ideal) .f32 0x7E800000#32) x = two 126 from ofBits_two 0x7E800000#32 126]
    exact near_start h
  have c1 : k0_pay30 (F := Ideal) (k0_pay3 a) x = 1#1 := (plain_apply _ x).2 h
  have s1 := near_select (k0_pay3 a) k0_pay4 _ 0x7B000000#32 0x04000000#32 119 246 128 (ofBits_two _ _) (ofBits_two _ _) x h s0 (by norm_num) (by norm_num)
  have s2 := near_select (k0_pay3 a) (k0_pay7 a) _ 0x5F800000#32 0x1F800000#32 64 128 64 (ofBits_two _ _) (ofBits_two _ _) x h s1 (by norm_num) (by norm_num)
  have s3 := near_select (k0_pay3 a) (k0_pay10 a) _ 0x4F800000#32 0x2F800000#32 32 64 32 (ofBits_two _ _) (ofBits_two _ _) x h s2 (by norm_num) (by norm_num)
  have s4 := near_select (k0_pay3 a) (k0_pay13 a) _ 0x47800000#32 0x37800000#32 16 32 16 (ofBits_two _ _) (ofBits_two _ _) x h s3 (by norm_num) (by norm_num)
  have s5 := near_select (k0_pay3 a) (k0_pay16 a) _ 0x43800000#32 0x3B800000#32 8 16 8 (ofBits_two _ _) (ofBits_two _ _) x h s4 (by norm_num) (by norm_num)
  have s6 := near_select (k0_pay3 a) (k0_pay19 a) (k0_pay20 a) 0x41800000#32 0x3D800000#32 4 8 4 (ofBits_two _ _) (ofBits_two _ _) x h s5 (by norm_num) (by norm_num)
  have s7 := near_select (k0_pay3 a) (k0_pay24 (k0_pay3 a) (k0_pay19 a) k0_pay21) _ 0x40800000#32 0x3E800000#32 2 4 2 (ofBits_two _ _) (ofBits_two _ _) x h s6 (by norm_num) (by norm_num)
  have s8 := near_select (k0_pay3 a) (k0_pay27 (k0_pay3 a) (k0_pay19 a) k0_pay21) _ 0x40000000#32 0x3F000000#32 1 2 1 (ofBits_two _ _) (ofBits_two _ _) x h s7 (by norm_num) (by norm_num)
  obtain ⟨e1, e2⟩ := near_end s8
  have t1 : Ideal.ofBits .f32 0x40000000#32 = two 1 := ofBits_two _ _
  have t2 : Ideal.ofBits .f32 0x3F000000#32 = two (-1) := ofBits_two _ _
  constructor
  · refine Eq.trans ?_ e1
    unfold k0_pay31
    show Scalar.select (k0_pay30 (F := Ideal) (k0_pay3 a) x) _ _ = _
    rw [c1]
    refine (if_pos rfl).trans ?_
    rw [← t1]
    rfl
  · refine Eq.trans ?_ e2
    unfold k0_pay32
    simp only [shapeCast_self]
    show Scalar.select (k0_pay30 (F := Ideal) (k0_pay3 a) x) _ _ = _
    rw [c1]
    refine (if_pos rfl).trans ?_
    rw [← t2]
    rfl

/-- Outside that range the scale and its inverse are 1. -/
theorem one_all (a : Vec Ideal S1536x128 .f32) (x : S1536x1.Idx) (h : ¬ Plain (k0_pay3 (F := Ideal) a x)) :
    k0_pay31 (F := Ideal) (k0_pay3 a) (k0_pay19 a) k0_pay21 x = 1 ∧ k0_pay32 (F := Ideal) (k0_pay3 a) (k0_pay19 a) (k0_pay20 a) k0_pay21 x = 1 := by
  have c1 : ¬ k0_pay30 (F := Ideal) (k0_pay3 a) x = 1#1 := fun e => h ((plain_apply _ x).1 e)
  constructor
  · unfold k0_pay31
    show Scalar.select (k0_pay30 (F := Ideal) (k0_pay3 a) x) _ _ = _
    exact (if_neg c1).trans Ideal.ofBits_one_f32
  · unfold k0_pay32
    simp only [shapeCast_self]
    show Scalar.select (k0_pay30 (F := Ideal) (k0_pay3 a) x) _ _ = _
    exact (if_neg c1).trans Ideal.ofBits_one_f32

theorem scaleBlock_apply (a : Vec Ideal S1536x128 .f32) (r : Fin 1536) : scaleBlock a (ix2 r 0) = scale a r := by
  unfold scale scaleOf
  rw [← value_apply a r]
  by_cases h : Plain (k0_pay3 (F := Ideal) a (ix2 r 0))
  · rw [if_pos h]; exact (near_all a _ h).1
  · rw [if_neg h]; exact (one_all a _ h).1

theorem invBlock_apply (a : Vec Ideal S1536x128 .f32) (r : Fin 1536) : invBlock a (ix2 r 0) = inverse a r := by
  unfold inverse invOf
  rw [← value_apply a r]
  by_cases h : Plain (k0_pay3 (F := Ideal) a (ix2 r 0))
  · rw [if_pos h]; exact (near_all a _ h).2
  · rw [if_neg h]; exact (one_all a _ h).2

end Cert.Down

end
-- ==== Proof.DownIdeal.Value.lean ====
/- What the arrays of the down kernel hold at its end, from what its buffers hold after each point. -/
module

public import Idealize.ShloMosaic.Lib.Pipeline.Value
public import proofs.«01_k».proof.Proof.DownIdeal.Frame

@[expose] public section

noncomputable section

namespace Cert.DownIdeal.Value

open Cert.DownIdeal Cert.DownIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 32 = 0) (h1 : ¬t.val % 32 = 31) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 32 = 0) (h1 : ¬t.val % 32 = 31) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_B m c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 32 = 0) (h1 : t.val % 32 = 31) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_C m c t h0 h1]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S1536x6144.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 32 = 0) (h1 : ¬t.val % 32 = 31) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 32 = 0) (h1 : ¬t.val % 32 = 31) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 32 = 0) (h1 : t.val % 32 = 31) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S1536x16384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 32 = 0) (h1 : ¬t.val % 32 = 31) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 32 = 0) (h1 : ¬t.val % 32 = 31) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 32 = 0) (h1 : t.val % 32 = 31) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1536x1.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_0 (c : Dev nD) (n : ℕ) (hb : n < cfg0.N) (acc : Vec F S1536x3072 .f32) : Vec F S1536x3072 .f32 :=
  if h0 : n % 32 = 0 then
    if h1 : n % 32 = 31 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 32 = 31 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.2.1) 32 (fun n h => scAt0_0 m c n h (VS0_0.read (Elt F) VS0_0.junk)) (scAt0_0 m c)
    (fun n h hn => by
      have hN := lt_of_lt_of_eq h (show cfg0.N = 64 from N_0)
      by_cases h0 : n % 32 = 0 <;> by_cases h1 : n % 32 = 31
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 64 from N_0)
      by_cases h0 : (n + 1) % 32 = 0 <;> by_cases h1 : (n + 1) % 32 = 31
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_2 (c : Dev nD) (n : ℕ) (hb : n < cfg0.N) (acc : Vec F S1536x1 .f32) : Vec F S1536x1 .f32 :=
  if h0 : n % 32 = 0 then
    if h1 : n % 32 = 31 then
      acc
    else
      sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 32 = 31 then
      sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc
    else
      sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 2 HOLDS after point `t`: the fold of its run up to `t`, from the reset at the run's first point
    `32·(t / 32)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2 = Pipeline.accAt (fun n h => scAt0_2 m c n h (VS0_2.read (Elt F) VS0_2.junk)) (scAt0_2 m c) (32 * (t.val / 32)) (t.val % 32)
      (by have h1 := t.isLt; have h2 := Nat.div_add_mod t.val 32; omega) :=
  Pipeline.eq_accAt_of_mod (fun n h => (outsAt0 m c n h).2.2.2.2) 32 (fun n h => scAt0_2 m c n h (VS0_2.read (Elt F) VS0_2.junk)) (scAt0_2 m c)
    (fun n h hn => by
      have hN := lt_of_lt_of_eq h (show cfg0.N = 64 from N_0)
      by_cases h0 : n % 32 = 0 <;> by_cases h1 : n % 32 = 31
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 64 from N_0)
      by_cases h0 : (n + 1) % 32 = 0 <;> by_cases h1 : (n + 1) % 32 = 31
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

end Cert.DownIdeal.Value

end
-- ==== Proof.DownArray.lean ====
/-
  Hand-written, untrusted. The down kernel's three output arrays after the run.
-/
module

public import proofs.«01_k».proof.Proof.DownPow
public import proofs.«01_k».proof.Proof.DownIdeal.Value
public import Idealize.ShloMosaic.Lib.Pipeline.ValueKit

@[expose] public section

set_option maxRecDepth 65536

noncomputable section

namespace Cert.Down

open Cert.DownIdeal Cert.DownIdeal.Gen Idealize.ShloMosaic Idealize.ShloMosaic.TcCoe Idealize.SL.Sem

variable (m : (ℓ : Loc nD τ sig) → Buf (Elt Ideal) ℓ) (c : Dev nD)

/-- The hidden activations, their maxima, the packed weights and the group scales the kernel is launched on. -/
abbrev A0 : Hidden := m ((c : Thread nD τ).loc main_arg0)
abbrev A1 : Maxima := m ((c : Thread nD τ).loc main_arg1)
abbrev A2 : Packed := m ((c : Thread nD τ).loc main_arg2)
abbrev A3 : GroupScales := m ((c : Thread nD τ).loc main_arg3)

/-! ## The blocks each point is given -/

theorem index_facts : ∀ t : Fin cfg0.N,
    (win0_0.index t (0 : Fin 2) = 0 ∧ win0_0.index t (1 : Fin 2) = t.val % 32) ∧ (win0_1.index t (0 : Fin 2) = 0 ∧ win0_1.index t (1 : Fin 2) = 0)
    ∧ (win0_2.index t (0 : Fin 2) = t.val % 32 ∧ win0_2.index t (1 : Fin 2) = t.val / 32)
    ∧ (win0_3.index t (0 : Fin 3) = t.val % 32 ∧ win0_3.index t (1 : Fin 3) = 0 ∧ win0_3.index t (2 : Fin 3) = t.val / 32)
    ∧ (win0_4.index t (0 : Fin 2) = 0 ∧ win0_4.index t (1 : Fin 2) = t.val / 32) ∧ (win0_5.index t (0 : Fin 2) = 0 ∧ win0_5.index t (1 : Fin 2) = t.val % 32)
    ∧ (win0_6.index t (0 : Fin 2) = 0 ∧ win0_6.index t (1 : Fin 2) = 0) :=
  (by decide +kernel : ∀ t : Fin grid0.N, _)

theorem lt64 (t : Fin cfg0.N) : t.val < 64 := lt_of_lt_of_eq t.isLt (show cfg0.N = 64 from N_0)

/-- The group scales as the kernel is given them: four rows to a block. -/
theorem V_main_v0 : (V m c main_v0 : Vec Ideal S32x4x6144 .f32) = shapeCast S32x4x6144 (A3 m c) shapeCasts_S128x6144_S32x4x6144 := by
  show StableHlo.after hostOps0 (fun b => m (c, b)) main_v0 = _
  simp only [hostOps0, StableHlo.after_cons, StableHlo.after_nil]
  exact StableHlo.reshape_result ..

theorem iblk0 (t : Fin cfg0.N) (r : Fin 1536) (k : Fin 512) (K : Fin 16384) (hK : K.val = 512 * (t.val % 32) + k.val) :
    (iblk m c 0 t : Vec Ideal S1536x512 .f32) (ix2 r k) = A0 m c (ix2 r K) := by
  obtain ⟨⟨e0, e1⟩, -⟩ := index_facts t
  refine (congrFun (V_main_arg0 m c) _).trans (congrArg (A0 m c) (funext fun a => Fin.ext ?_))
  match a with
  | ⟨0, _⟩ => show win0_0.index t (0 : Fin 2) * 1536 + 1 * r.val = r.val; rw [e0]; omega
  | ⟨1, _⟩ => show win0_0.index t (1 : Fin 2) * 512 + 1 * k.val = K.val; rw [e1]; omega

theorem iblk1 (t : Fin cfg0.N) : (iblk m c 1 t : S1536x128.Idx → EReal) = A1 m c := by
  obtain ⟨-, ⟨e0, e1⟩, -⟩ := index_facts t
  funext y
  refine (congrFun (V_main_arg1 m c) _).trans (congrArg (A1 m c) (funext fun a => Fin.ext ?_))
  match a with
  | ⟨0, _⟩ => show win0_1.index t (0 : Fin 2) * 1536 + 1 * (y 0).val = (y 0).val; rw [e0]; omega
  | ⟨1, _⟩ => show win0_1.index t (1 : Fin 2) * 128 + 1 * (y 1).val = (y 1).val; rw [e1]; omega

theorem iblk2 (t : Fin cfg0.N) (k : Fin 256) (j : Fin 3072) (K : Fin 8192) (J : Fin 6144) (hK : K.val = 256 * (t.val % 32) + k.val)
    (hJ : J.val = 3072 * (t.val / 32) + j.val) : (iblk m c 2 t : Vec Ideal S256x3072 .i8) (ix2 k j) = A2 m c (ix2 K J) := by
  obtain ⟨-, -, ⟨e0, e1⟩, -⟩ := index_facts t
  refine (congrFun (V_main_arg2 m c) _).trans (congrArg (A2 m c) (funext fun a => Fin.ext ?_))
  match a with
  | ⟨0, _⟩ => show win0_2.index t (0 : Fin 2) * 256 + 1 * k.val = K.val; rw [e0]; omega
  | ⟨1, _⟩ => show win0_2.index t (1 : Fin 2) * 3072 + 1 * j.val = J.val; rw [e1]; omega

theorem iblk3 (t : Fin cfg0.N) (g : Fin 4) (j : Fin 3072) (G : Fin 128) (J : Fin 6144) (hG : G.val = 4 * (t.val % 32) + g.val)
    (hJ : J.val = 3072 * (t.val / 32) + j.val) : (iblk m c 3 t : Vec Ideal S1x4x3072 .f32) (ix3 0 g j) = A3 m c (ix2 G J) := by
  obtain ⟨-, -, -, ⟨e0, e1, e2⟩, -⟩ := index_facts t
  refine (congrFun (V_main_v0 m c) _).trans (shapeCast_apply _ shapeCasts_S128x6144_S32x4x6144 _ (ix2 G J) ?_)
  rw [Shape.rowMajor_val_two, Shape.rowMajor_val_three]
  show G.val * 6144 + J.val = ((win0_3.index t (0 : Fin 3) * 1 + 1 * 0) * 4 + (win0_3.index t (1 : Fin 3) * 4 + 1 * g.val)) * 6144 + (win0_3.index t (2 : Fin 3) * 3072 + 1 * j.val)
  rw [e0, e1, e2]
  omega

/-- A point's weights: 512 rows and 3072 columns of the whole matrix. -/
theorem weights_at (t : Fin cfg0.N) (k : Fin 512) (j : Fin 3072) (K : Fin 16384) (J : Fin 6144) (hK : K.val = 512 * (t.val % 32) + k.val)
    (hJ : J.val = 3072 * (t.val / 32) + j.val) : weights (iblk m c 2 t) (iblk m c 3 t) (ix2 k j) = weight (A2 m c) (A3 m c) (ix2 K J) := by
  have hk := k.isLt
  have hKl := K.isLt
  show ((Int4.code ((iblk m c 2 t : Vec Ideal S256x3072 .i8) (ix2 ⟨k.val / 2, by omega⟩ j)) (k.val % 2) : ℝ) : EReal) * (iblk m c 3 t : Vec Ideal S1x4x3072 .f32) (ix3 0 ⟨k.val / 128, by omega⟩ j)
    = ((Int4.code (A2 m c (ix2 ⟨K.val / 2, by omega⟩ J)) (K.val % 2) : ℝ) : EReal) * A3 m c (ix2 ⟨K.val / 128, by omega⟩ J)
  rw [show K.val % 2 = k.val % 2 by omega]
  refine congrArg₂ (fun (z : BitVec 8) (w : EReal) => ((Int4.code z (k.val % 2) : ℝ) : EReal) * w) (iblk2 m c t _ j _ J ?_ hJ) (iblk3 m c t _ j _ J ?_ hJ)
  · show K.val / 2 = 256 * (t.val % 32) + k.val / 2; omega
  · show K.val / 128 = 4 * (t.val % 32) + k.val / 128; omega

/-- The codes a point stores. -/
theorem codes_at (t : Fin cfg0.N) (h : Vec Ideal S1536x512 .f32) (hh : h = iblk m c 0 t) (inv : Vec Ideal S1536x1 .f32) (hinv : inv = invBlock (A1 m c)) (r : Fin 1536) (k : Fin 512) (K : Fin 16384)
    (hK : K.val = 512 * (t.val % 32) + k.val) :
    clip (h (ix2 r k) * inv (ix2 r 0)) = code (A0 m c) (A1 m c) r K := by
  rw [hinv, invBlock_apply, show h (ix2 r k) = A0 m c (ix2 r K) from (congrFun hh _).trans (iblk0 m c t r k K hK)]
  rfl

/-- What a point adds to the accumulator: one block of the contraction. -/
theorem next_at (t : Fin cfg0.N) (acc : Vec Ideal S1536x3072 .f32) (inv : Vec Ideal S1536x1 .f32) (hinv : inv = invBlock (A1 m c)) (r : Fin 1536) (j : Fin 3072) (J : Fin 6144)
    (hJ : J.val = 3072 * (t.val / 32) + j.val) (hacc : acc (ix2 r j) = partialSum (A0 m c) (A1 m c) (A2 m c) (A3 m c) r J (t.val % 32)) :
    next acc (iblk m c 0 t) inv (iblk m c 2 t) (iblk m c 3 t) (ix2 r j) = partialSum (A0 m c) (A1 m c) (A2 m c) (A3 m c) r J (t.val % 32 + 1) := by
  rw [next_apply, partialSum_succ, hacc]
  refine congrArg (_ + ·) (Finset.sum_congr rfl fun k _ => ?_)
  have hk : 512 * (t.val % 32) + k.val < 16384 := by have := k.isLt; omega
  unfold term
  rw [dif_pos hk]
  exact congrArg₂ (fun a b : EReal => a * b) (codes_at m c t _ rfl inv hinv r k ⟨_, hk⟩ rfl) (weights_at m c t k j ⟨_, hk⟩ J rfl hJ)

/-! ## After each point -/

/-- The first point of a sweep. -/
theorem at_first (t : Fin cfg0.N) (h0 : t.val % 32 = 0) :
    (outsAt0 m c t.val t.isLt).2.1 = k0_pay35 (F := Ideal) (iblk m c 0 t) (invBlock (A1 m c))
    ∧ (outsAt0 m c t.val t.isLt).2.2.1 = scaleBlock (A1 m c)
    ∧ (outsAt0 m c t.val t.isLt).2.2.2.1 = next (k0_pay34 (F := Ideal) k0_pay33) (iblk m c 0 t) (invBlock (A1 m c)) (iblk m c 2 t) (iblk m c 3 t)
    ∧ (outsAt0 m c t.val t.isLt).2.2.2.2 = invBlock (A1 m c) := by
  rw [outsAt0_A m c t h0 (by omega)]
  dsimp only
  rw [out_A_5, out_A_6, sout_A_0, sout_A_2, iblk1]
  exact ⟨rfl, rfl, rfl, rfl⟩

/-- The other points of a sweep, over what the point before left. -/
theorem at_later (t : Fin cfg0.N) (h0 : ¬ t.val % 32 = 0) (p : Vec Ideal S1536x3072 .bf16 × Vec Ideal S1536x512 .fp8e4m3 × Vec Ideal S1536x1 .f32 × Vec Ideal S1536x3072 .f32 × Vec Ideal S1536x1 .f32)
    (hp : outsAt0 m c (t.val - 1) (Nat.lt_of_le_of_lt (Nat.sub_le _ _) t.isLt) = p) :
    (outsAt0 m c t.val t.isLt).2.1 = k0_pay35 (F := Ideal) (iblk m c 0 t) p.2.2.2.2
    ∧ (outsAt0 m c t.val t.isLt).2.2.1 = p.2.2.1
    ∧ (outsAt0 m c t.val t.isLt).2.2.2.1 = next p.2.2.2.1 (iblk m c 0 t) p.2.2.2.2 (iblk m c 2 t) (iblk m c 3 t)
    ∧ (outsAt0 m c t.val t.isLt).2.2.2.2 = p.2.2.2.2 := by
  by_cases h1 : t.val % 32 = 31
  · rw [outsAt0_C m c t h0 h1, hp]
    dsimp only
    rw [out_C_5, sout_C_0]
    exact ⟨rfl, rfl, rfl, rfl⟩
  · rw [outsAt0_B m c t h0 h1, hp]
    dsimp only
    rw [out_B_5, sout_B_0]
    exact ⟨rfl, rfl, rfl, rfl⟩

/-- The last point of a sweep stores the result. -/
theorem at_last (t : Fin cfg0.N) (h1 : t.val % 32 = 31) (p : Vec Ideal S1536x3072 .bf16 × Vec Ideal S1536x512 .fp8e4m3 × Vec Ideal S1536x1 .f32 × Vec Ideal S1536x3072 .f32 × Vec Ideal S1536x1 .f32)
    (hp : outsAt0 m c (t.val - 1) (Nat.lt_of_le_of_lt (Nat.sub_le _ _) t.isLt) = p) :
    (outsAt0 m c t.val t.isLt).1 = k0_pay2 (F := Ideal) (next p.2.2.2.1 (iblk m c 0 t) p.2.2.2.2 (iblk m c 2 t) (iblk m c 3 t)) p.2.2.1 := by
  rw [outsAt0_C m c t (by omega) h1, hp]
  dsimp only
  exact out_C_4 ..

/-- Every point leaves the scales and their inverses of the whole launch. -/
theorem carried (n : ℕ) : ∀ hn : n < cfg0.N, (outsAt0 m c n hn).2.2.1 = scaleBlock (A1 m c) ∧ (outsAt0 m c n hn).2.2.2.2 = invBlock (A1 m c) := by
  induction n with
  | zero => exact fun hn => ⟨(at_first m c ⟨0, hn⟩ rfl).2.1, (at_first m c ⟨0, hn⟩ rfl).2.2.2⟩
  | succ n ih =>
    intro hn
    by_cases h0 : (n + 1) % 32 = 0
    · exact ⟨(at_first m c ⟨n + 1, hn⟩ h0).2.1, (at_first m c ⟨n + 1, hn⟩ h0).2.2.2⟩
    · have h := at_later m c ⟨n + 1, hn⟩ h0 _ rfl
      exact ⟨h.2.1.trans (ih _).1, h.2.2.2.trans (ih _).2⟩

/-- After a point the accumulator holds the blocks of its sweep so far. -/
theorem acc_at (n : ℕ) : ∀ (hn : n < cfg0.N) (r : Fin 1536) (j : Fin 3072) (J : Fin 6144), J.val = 3072 * (n / 32) + j.val →
    (outsAt0 m c n hn).2.2.2.1 (ix2 r j) = partialSum (A0 m c) (A1 m c) (A2 m c) (A3 m c) r J (n % 32 + 1) := by
  have first : ∀ (n : ℕ) (hn : n < cfg0.N), n % 32 = 0 → ∀ (r : Fin 1536) (j : Fin 3072) (J : Fin 6144), J.val = 3072 * (n / 32) + j.val →
      (outsAt0 m c n hn).2.2.2.1 (ix2 r j) = partialSum (A0 m c) (A1 m c) (A2 m c) (A3 m c) r J (n % 32 + 1) := by
    intro n hn h0 r j J hJ
    rw [show (outsAt0 m c n hn).2.2.2.1 = _ from (at_first m c ⟨n, hn⟩ h0).2.2.1]
    refine next_at m c ⟨n, hn⟩ _ _ rfl r j J hJ ?_
    rw [start_apply, show (⟨n, hn⟩ : Fin cfg0.N).val % 32 = 0 from h0]
    rfl
  induction n with
  | zero => exact fun hn => first 0 hn rfl
  | succ n ih =>
    intro hn r j J hJ
    by_cases h0 : (n + 1) % 32 = 0
    · exact first _ hn h0 r j J hJ
    · rw [show (outsAt0 m c (n + 1) hn).2.2.2.1 = _ from (at_later m c ⟨n + 1, hn⟩ h0 _ rfl).2.2.1]
      refine next_at m c ⟨n + 1, hn⟩ _ _ (carried m c n _).2 r j J hJ ?_
      refine (ih (Nat.lt_of_succ_lt hn) r j J (by omega)).trans ?_
      rw [show n % 32 + 1 = (n + 1) % 32 by omega]

/-- The codes block after a point. -/
theorem code_at (t : Fin cfg0.N) (r : Fin 1536) (k : Fin 512) (K : Fin 16384) (hK : K.val = 512 * (t.val % 32) + k.val) :
    (outsAt0 m c t.val t.isLt).2.1 (ix2 r k) = code (A0 m c) (A1 m c) r K := by
  by_cases h0 : t.val % 32 = 0
  · rw [(at_first m c t h0).1, codes_apply]
    exact codes_at m c t _ rfl _ rfl r k K hK
  · rw [(at_later m c t h0 _ rfl).1, codes_apply]
    exact codes_at m c t _ rfl _ (carried m c _ _).2 r k K hK

/-- The result block after the last point of a sweep. -/
theorem result_at (t : Fin cfg0.N) (h1 : t.val % 32 = 31) (r : Fin 1536) (j : Fin 3072) (J : Fin 6144) (hJ : J.val = 3072 * (t.val / 32) + j.val) :
    (outsAt0 m c t.val t.isLt).1 (ix2 r j) = result (A0 m c) (A1 m c) (A2 m c) (A3 m c) r J := by
  rw [at_last m c t h1 _ rfl, result_apply, (carried m c _ _).1, scaleBlock_apply, ← partialSum_all]
  refine congrArg (· * _) ?_
  rw [next_at m c t _ _ (carried m c _ _).2 r j J hJ ?_, h1]
  refine (acc_at m c _ _ r j J (by omega)).trans ?_
  rw [show (t.val - 1) % 32 + 1 = t.val % 32 by omega]

/-! ## The arrays after the run -/

theorem array_codes : ((dats m 0 c).arrAt 5 cfg0.N : S1536x16384.Idx → EReal) = fun i => code (A0 m c) (A1 m c) (i 0) (i 1) := by
  refine (dats m 0 c).arrAt_eq_of_covers 5 _ (by decide +kernel) fun t hf y => ?_
  rw [after0_5]
  obtain ⟨-, -, -, -, -, ⟨e0, e1⟩, -⟩ := index_facts t
  obtain ⟨r, k, rfl⟩ : ∃ (r : Fin 1536) (k : Fin 512), y = ix2 r k := ⟨y 0, y 1, eq_ix2 y⟩
  have h0 : ((((cfg0.win 5).blk t).view.emb (ix2 r k)) (0 : Fin 2)).val = r.val := by
    show win0_5.index t (0 : Fin 2) * 1536 + 1 * r.val = r.val; rw [e0]; omega
  have h1 : ((((cfg0.win 5).blk t).view.emb (ix2 r k)) (1 : Fin 2)).val = 512 * (t.val % 32) + k.val := by
    show win0_5.index t (1 : Fin 2) * 512 + 1 * k.val = _; rw [e1]; omega
  refine (code_at m c t r k _ h1).trans ?_
  exact congrArg (fun z => code (A0 m c) (A1 m c) z _) (Fin.ext h0.symm)

theorem array_result : ((dats m 0 c).arrAt 4 cfg0.N : S1536x6144.Idx → EReal) = fun i => result (A0 m c) (A1 m c) (A2 m c) (A3 m c) (i 0) (i 1) := by
  refine (dats m 0 c).arrAt_eq_of_covers 4 _ (by decide +kernel) fun t hf y => ?_
  rw [after0_4]
  obtain ⟨-, -, -, -, ⟨e0, e1⟩, -⟩ := index_facts t
  obtain ⟨r, j, rfl⟩ : ∃ (r : Fin 1536) (j : Fin 3072), y = ix2 r j := ⟨y 0, y 1, eq_ix2 y⟩
  have h0 : ((((cfg0.win 4).blk t).view.emb (ix2 r j)) (0 : Fin 2)).val = r.val := by
    show win0_4.index t (0 : Fin 2) * 1536 + 1 * r.val = r.val; rw [e0]; omega
  have h1 : ((((cfg0.win 4).blk t).view.emb (ix2 r j)) (1 : Fin 2)).val = 3072 * (t.val / 32) + j.val := by
    show win0_4.index t (1 : Fin 2) * 3072 + 1 * j.val = _; rw [e1]; omega
  refine (result_at m c t ((flush0_4 t).1 hf) r j _ h1).trans ?_
  exact congrArg (fun z => result (A0 m c) (A1 m c) (A2 m c) (A3 m c) z _) (Fin.ext h0.symm)

theorem array_scale : ((dats m 0 c).arrAt 6 cfg0.N : S1536x1.Idx → EReal) = fun i => scale (A1 m c) (i 0) := by
  refine (dats m 0 c).arrAt_eq_of_covers 6 _ (by decide +kernel) fun t hf y => ?_
  rw [after0_6]
  obtain ⟨-, -, -, -, -, -, ⟨e0, e1⟩⟩ := index_facts t
  obtain ⟨r, z, rfl⟩ : ∃ (r : Fin 1536) (z : Fin 1), y = ix2 r z := ⟨y 0, y 1, eq_ix2 y⟩
  obtain rfl : z = 0 := Subsingleton.elim _ _
  have h0 : ((((cfg0.win 6).blk t).view.emb (ix2 r 0)) (0 : Fin 2)).val = r.val := by
    show win0_6.index t (0 : Fin 2) * 1536 + 1 * r.val = r.val; rw [e0]; omega
  rw [(carried m c _ _).1]
  refine (scaleBlock_apply (A1 m c) r).trans ?_
  exact congrArg (fun z => scale (A1 m c) z) (Fin.ext h0.symm)

end Cert.Down

end
-- ==== Proof.DownRef.lean ====
/-
  Hand-written, untrusted. What the reference of the down projection computes from its codes and scales, read at an index over exact numbers.
-/
module

public import proofs.«01_k».proof.Proof.DownSpec
public import proofs.«01_k».proof.Proof.Gen.DownRefIdeal.Read
public import Idealize.ShloMosaic.Lib.IdealHost

@[expose] public section

set_option maxRecDepth 16384

noncomputable section

namespace Cert.Down.Ref

open Cert.DownRefIdeal Cert.DownRefIdeal.Read Idealize.ShloMosaic

/-- A sum over the rows is the sum over the even ones plus the sum over the odd ones. -/
theorem even_odd (f : Fin 16384 → EReal) :
    (∑ k : Fin 16384, f k) = (∑ k : Fin 8192, f ⟨2 * k.val, by omega⟩) + ∑ k : Fin 8192, f ⟨2 * k.val + 1, by omega⟩ := by
  rw [← (finProdFinEquiv (m := 8192) (n := 2)).sum_comp (g := f), Fintype.sum_prod_type, ← Finset.sum_add_distrib]
  refine Finset.sum_congr rfl fun k _ => ?_
  rw [Fin.sum_univ_two]
  exact congrArg₂ (fun a b => f a + f b) (Fin.ext (by show 0 + 2 * k.val = 2 * k.val; omega)) (Fin.ext (by show 1 + 2 * k.val = 2 * k.val + 1; omega))

variable (Q : Packed) (S : GroupScales) (X : Vec Ideal S1536x16384 .bf16)

/-! ## The weights -/

theorem shift_four (x : BitVec 32) : IntOp.shrsi .host x 4#32 = x.sshiftRight 4 := by
  unfold IntOp.shrsi
  rw [if_pos (by decide)]
  rfl

/-- The reference's integer work on the low half of one byte. -/
theorem low_int (i : S8192x6144.Idx) : val_main_v43 (F := Ideal) Q i = ((Int4.code (Q i) 0 : ℝ) : EReal) := by
  have e : val_main_v34 (F := Ideal) Q i = ((((Q i).setWidth 32) &&& 15#32) ^^^ 8#32) - 8#32 := by
    rw [val_main_v34_apply, val_main_v32_apply, val_main_v30_apply, val_main_v28_apply, val_main_v29_apply, val_main_v31_apply, val_main_v33_apply, val_main_c_apply, val_main_c_10_apply, val_main_c_11_apply]
    rfl
  refine (val_main_v43_apply _ _).trans ((congrArg (fun z : BitVec 32 => ((z.toInt : ℝ) : EReal)) e).trans ?_)
  exact congrArg (fun z : ℤ => ((z : ℝ) : EReal)) (Int4.reference_low (Q i))

/-- The same on the high half. -/
theorem high_int (i : S8192x6144.Idx) : val_main_v44 (F := Ideal) Q i = ((Int4.code (Q i) 1 : ℝ) : EReal) := by
  have e : val_main_v42 (F := Ideal) Q i = (((((Q i).setWidth 32).sshiftRight 4) &&& 15#32) ^^^ 8#32) - 8#32 := by
    rw [val_main_v42_apply, val_main_v40_apply, val_main_v38_apply, val_main_v36_apply, val_main_v28_apply, val_main_v35_apply, val_main_v37_apply, val_main_v39_apply, val_main_v41_apply, val_main_c_12_apply, val_main_c_13_apply, val_main_c_14_apply, val_main_c_15_apply]
    rw [shift_four]
    rfl
  refine (val_main_v44_apply _ _).trans ((congrArg (fun z : BitVec 32 => ((z.toInt : ℝ) : EReal)) e).trans ?_)
  exact congrArg (fun z : ℤ => ((z : ℝ) : EReal)) (Int4.reference_high (Q i))

/-- The weights of the even rows. -/
theorem low (k : Fin 8192) (j : Fin 6144) : val_main_v50 (F := Ideal) Q S (ix2 k j) = weight Q S (ix2 ⟨2 * k.val, by omega⟩ j) := by
  have hk := k.isLt
  have hj := j.isLt
  refine (val_main_v50_apply _ _ _).trans ((val_main_v49_apply _ _ _).trans ?_)
  refine congrArg₂ (fun a b : EReal => a * b) ?_ ?_
  · refine (val_main_v47_apply _ _).trans ?_
    refine (low_int Q _).trans ?_
    refine congrArg₂ (fun (z : BitVec 8) (n : ℕ) => ((Int4.code z n : ℝ) : EReal)) (congrArg Q (funext fun a => Fin.ext ?_)) ?_
    · match a with
      | ⟨0, _⟩ =>
        show ((((k.val * 6144 + j.val) / 393216) * 64 + (k.val * 6144 + j.val) / 6144 % 64) * 6144 + (k.val * 6144 + j.val) % 6144) / 6144 = (2 * k.val) / 2
        omega
      | ⟨1, _⟩ =>
        show ((((k.val * 6144 + j.val) / 393216) * 64 + (k.val * 6144 + j.val) / 6144 % 64) * 6144 + (k.val * 6144 + j.val) % 6144) % 6144 = j.val
        omega
    · show 0 = (2 * k.val) % 2
      omega
  · refine (val_main_v48_apply _ _).trans ((val_main_v46_apply _ _).trans ((val_main_v45_apply _ _).trans ?_))
    refine congrArg S (funext fun a => Fin.ext ?_)
    match a with
    | ⟨0, _⟩ =>
      show (k.val * 6144 + j.val) / 393216 = (2 * k.val) / 128
      omega
    | ⟨1, _⟩ =>
      show (k.val * 6144 + j.val) % 6144 = j.val
      omega

/-- The weights of the odd rows. -/
theorem high (k : Fin 8192) (j : Fin 6144) : val_main_v54 (F := Ideal) Q S (ix2 k j) = weight Q S (ix2 ⟨2 * k.val + 1, by omega⟩ j) := by
  have hk := k.isLt
  have hj := j.isLt
  refine (val_main_v54_apply _ _ _).trans ((val_main_v53_apply _ _ _).trans ?_)
  refine congrArg₂ (fun a b : EReal => a * b) ?_ ?_
  · refine (val_main_v51_apply _ _).trans ?_
    refine (high_int Q _).trans ?_
    refine congrArg₂ (fun (z : BitVec 8) (n : ℕ) => ((Int4.code z n : ℝ) : EReal)) (congrArg Q (funext fun a => Fin.ext ?_)) ?_
    · match a with
      | ⟨0, _⟩ =>
        show ((((k.val * 6144 + j.val) / 393216) * 64 + (k.val * 6144 + j.val) / 6144 % 64) * 6144 + (k.val * 6144 + j.val) % 6144) / 6144 = (2 * k.val + 1) / 2
        omega
      | ⟨1, _⟩ =>
        show ((((k.val * 6144 + j.val) / 393216) * 64 + (k.val * 6144 + j.val) / 6144 % 64) * 6144 + (k.val * 6144 + j.val) % 6144) % 6144 = j.val
        omega
    · show 1 = (2 * k.val + 1) % 2
      omega
  · refine (val_main_v52_apply _ _).trans ((val_main_v46_apply _ _).trans ((val_main_v45_apply _ _).trans ?_))
    refine congrArg S (funext fun a => Fin.ext ?_)
    match a with
    | ⟨0, _⟩ =>
      show (k.val * 6144 + j.val) / 393216 = (2 * k.val + 1) / 128
      omega
    | ⟨1, _⟩ =>
      show (k.val * 6144 + j.val) % 6144 = j.val
      omega

/-! ## The columns of the codes -/

theorem even (r : Fin 1536) (k : Fin 8192) : val_main_v56 (F := Ideal) X (ix2 r k) = X (ix2 r ⟨2 * k.val, by omega⟩) := by
  have hk := k.isLt
  have hr := r.isLt
  refine (val_main_v56_apply _ _).trans ((val_main_v55_apply _ _).trans ((val_main_v27_apply _ _).trans ?_))
  refine congrArg X (funext fun a => Fin.ext ?_)
  match a with
  | ⟨0, _⟩ =>
    show (((r.val * 8192 + k.val) / 8192 * 8192 + (r.val * 8192 + k.val) / 1 % 8192) * 2 + 0) / 16384 = r.val
    omega
  | ⟨1, _⟩ =>
    show (((r.val * 8192 + k.val) / 8192 * 8192 + (r.val * 8192 + k.val) / 1 % 8192) * 2 + 0) % 16384 = 2 * k.val
    omega

theorem odd (r : Fin 1536) (k : Fin 8192) : val_main_v59 (F := Ideal) X (ix2 r k) = X (ix2 r ⟨2 * k.val + 1, by omega⟩) := by
  have hk := k.isLt
  have hr := r.isLt
  refine (val_main_v59_apply _ _).trans ((val_main_v58_apply _ _).trans ((val_main_v27_apply _ _).trans ?_))
  refine congrArg X (funext fun a => Fin.ext ?_)
  match a with
  | ⟨0, _⟩ =>
    show (((r.val * 8192 + k.val) / 8192 * 8192 + (r.val * 8192 + k.val) / 1 % 8192) * 2 + (1 + 0)) / 16384 = r.val
    omega
  | ⟨1, _⟩ =>
    show (((r.val * 8192 + k.val) / 8192 * 8192 + (r.val * 8192 + k.val) / 1 % 8192) * 2 + (1 + 0)) % 16384 = 2 * k.val + 1
    omega

/-! ## The projection -/

theorem projection_eq (E : Vec Ideal S1536x1 .f32) (r : Fin 1536) (j : Fin 6144) :
    val_main_v64 (F := Ideal) Q S X E (ix2 r j) = (∑ k : Fin 16384, (X (ix2 r k) : EReal) * weight Q S (ix2 k j)) * (E (ix2 r 0) : EReal) := by
  refine (val_main_v64_apply _ _ _ _ _).trans ((val_main_v63_apply _ _ _ _ _).trans ?_)
  refine congrArg₂ (fun a b : EReal => a * b) ?_ ?_
  · refine (val_main_v61_apply _ _ _ _).trans (Eq.trans ?_ (even_odd fun k => (X (ix2 r k) : EReal) * weight Q S (ix2 k j)).symm)
    refine congrArg₂ (fun a b : EReal => a + b) ?_ ?_
    · refine (val_main_v57_apply _ _ _ _).trans (Finset.sum_congr rfl fun k _ => congrArg₂ (fun a b : EReal => a * b) ?_ ?_)
      · exact (congrArg _ (eq_ix2 _)).trans (even X r k)
      · exact (congrArg _ (eq_ix2 _)).trans (low Q S k j)
    · refine (val_main_v60_apply _ _ _ _).trans (Finset.sum_congr rfl fun k _ => congrArg₂ (fun a b : EReal => a * b) ?_ ?_)
      · exact (congrArg _ (eq_ix2 _)).trans (odd X r k)
      · exact (congrArg _ (eq_ix2 _)).trans (high Q S k j)
  · exact (val_main_v62_apply _ _).trans (congrArg E (eq_ix2 _))

end Cert.Down.Ref

end
-- ==== Proof.DownRefScale.lean ====
/-
  Hand-written, untrusted. The scale and the codes that the reference of the down projection computes, over exact numbers.
-/
module

public import proofs.«01_k».proof.Proof.DownSpec
public import proofs.«01_k».proof.Proof.DownPow
public import proofs.«01_k».proof.Proof.Gen.DownRefIdeal.Run
public import Idealize.ShloMosaic.Lib.Pipeline.ValueKit
public import Idealize.ShloMosaic.Lib.IdealHost

@[expose] public section

set_option maxRecDepth 16384

noncomputable section

namespace Cert.Down.Ref

open Cert.DownRefIdeal Cert.DownRefIdeal.Gen Idealize.ShloMosaic Idealize.ShloMosaic.TcCoe Idealize.SL.Sem Idealize.ShloMosaic.StableHlo

/-! ## The reference's terms -/

variable {F : FTy → Type} [FloatOps F]

/-- The largest maximum of each row times the constant. -/
abbrev valueArray (a : Vec F S1536x128 .f32) : Vec F S1536x1 .f32 :=
  mulf (broadcastInDim S1536x1 ![0] bcast_S1536_S1536x1_0 (Host.reduce FloatOps.maximumf a (constant S_ .f32 0xFF800000#32) reducesTo_S1536x128_S1536_d1 h_S_))
    (broadcastInDim S1536x1 ![] bcast_S_S1536x1 (constant S_ .f32 0x3B124925#32))

/-- The exponent of each row's scale, by the logarithm. -/
abbrev exponentArray (a : Vec F S1536x128 .f32) : Vec F S1536x1 .f32 :=
  select (andi (cmpf .oge (valueArray a) (broadcastInDim S1536x1 ![] bcast_S_S1536x1 (constant S_ .f32 0x00800000#32)))
      (cmpf .olt (valueArray a) (broadcastInDim S1536x1 ![] bcast_S_S1536x1 (constant S_ .f32 0x7B800000#32))))
    (addf (Host.floor (Host.divf (Host.log (valueArray a)) (broadcastInDim S1536x1 ![] bcast_S_S1536x1 (id (Host.log (constant S_ .f32 0x40000000#32))))))
      (broadcastInDim S1536x1 ![] bcast_S_S1536x1 (constant S_ .f32 0x3F800000#32)))
    (broadcastInDim S1536x1 ![] bcast_S_S1536x1 (id (constant S_ .f32 0x00000000#32)))

/-- Two to that power. -/
abbrev scaleArray (a : Vec F S1536x128 .f32) : Vec F S1536x1 .f32 :=
  Host.powf (broadcastInDim S1536x1 ![] bcast_S_S1536x1 (constant S_ .f32 0x40000000#32)) (exponentArray a)

/-- Two to the opposite power. -/
abbrev inverseArray (a : Vec F S1536x128 .f32) : Vec F S1536x1 .f32 :=
  Host.powf (broadcastInDim S1536x1 ![] bcast_S_S1536x1 (constant S_ .f32 0x40000000#32)) (Host.negf (exponentArray a))

/-- The codes. -/
abbrev codeArray (h : Vec F S1536x16384 .f32) (a : Vec F S1536x128 .f32) : Vec F S1536x16384 .f32 :=
  minimumf (broadcastInDim S1536x16384 ![] bcast_S_S1536x16384 (id (constant S_ .f32 0x43E00000#32)))
    (maximumf (broadcastInDim S1536x16384 ![] bcast_S_S1536x16384 (id (constant S_ .f32 0xC3E00000#32)))
      (mulf h (broadcastInDim S1536x16384 ![0, 1] bcast_S1536x1_S1536x16384_0_1 (inverseArray a))))

set_option maxRecDepth 65536 in
set_option maxHeartbeats 2000000 in
/-- What the region finds in its input: the codes. -/
theorem entry_codes (m : (ℓ : Loc nD τ sig) → Buf (Elt F) ℓ) (c : Dev nD) : Gen.V0 m c (Proc.devRef .tc main_v25)
    = codeArray (m ((c.tc : Thread nD τ).loc main_arg0)) (m ((c.tc : Thread nD τ).loc main_arg1)) := by
  simp only [Gen.V0, Gen.hostOps0, Gen.hostOps0_1, Gen.hostOps0_2, Gen.hostOps0_3, TRef.binary, TRef.ternary, TRef.unary, TRef.toBuf, TRef.ofBuf, cast_eq, List.flatten_cons, List.flatten_nil, List.append_nil, List.cons_append, List.nil_append]
  after_results_simp <;> rfl

/-! ## Read at an index -/

theorem value_eq (a : Vec Ideal S1536x128 .f32) (r : Fin 1536) : valueArray a (ix2 r 0) = value a r := by
  refine congrArg (· * Ideal.ofBits .f32 0x3B124925#32) ?_
  refine (broadcastInDim_apply _ bcast_S1536_S1536x1_0 _ (ix2 r 0) (ValueIdx.ix1 r) (fun z => match z with
    | ⟨0, _⟩ => by show r.val = if (1536 : Nat) = 1 then 0 else r.val; rw [if_neg (by decide)])).trans ?_
  rw [Host.reduce_eq_fold_single FloatOps.maximumf _ _ reducesTo_S1536x128_S1536_d1 (by decide : S1536x128.Reduces [1] S1536) h_S_]
  have hbot : Ideal.ofBits .f32 0xFF800000#32 = ⊥ := by simp [Ideal.ofBits, Ideal.ieee]
  refine (congrArg (fun z : EReal => Finset.fold max z _ (Finset.univ : Finset (Fin 128))) hbot).trans ?_
  refine congrArg (fun f => Finset.fold max ⊥ f (Finset.univ : Finset (Fin 128))) (funext fun l => congrArg a (funext fun z => Fin.ext ?_))
  match z with
  | ⟨0, _⟩ => rfl
  | ⟨1, _⟩ => rfl

theorem two_one : Ideal.ofBits .f32 0x40000000#32 = ((2 : ℝ) : EReal) := by
  refine (ofBits_two _ 1).trans ?_
  unfold two
  exact congrArg (fun z : ℝ => (z : EReal)) (zpow_one 2)

/-- The exponent at an index, its operations read as exact ones. -/
theorem exponent_read (a : Vec Ideal S1536x128 .f32) (i : S1536x1.Idx) : exponentArray a i
    = Scalar.select (Ideal.cmp .oge (valueArray a i) (Ideal.ofBits .f32 0x00800000#32) &&& Ideal.cmp .olt (valueArray a i) (Ideal.ofBits .f32 0x7B800000#32))
    (Ideal.liftRound Int.floor (Ideal.div (Ideal.log (valueArray a i)) (Ideal.log (Ideal.ofBits .f32 0x40000000#32))) + Ideal.ofBits .f32 0x3F800000#32)
    (Ideal.ofBits .f32 0x00000000#32) := by
  unfold exponentArray
  generalize valueArray a = v
  rfl

open Classical in
/-- The exponent: the logarithm's floor plus one, or 0 outside the range. -/
theorem exponent_eq (a : Vec Ideal S1536x128 .f32) (r : Fin 1536) :
    exponentArray a (ix2 r 0) = if Plain (value a r) then (((exponent (value a r) : ℤ) : ℝ) : EReal) else ((((0 : ℤ)) : ℝ) : EReal) := by
  have e0 : Ideal.ofBits .f32 0x00800000#32 = two (-126) := ofBits_two _ _
  have e1 : Ideal.ofBits .f32 0x7B800000#32 = two 120 := ofBits_two _ _
  have e2 : Ideal.ofBits .f32 0x3F800000#32 = 1 := Ideal.ofBits_one_f32
  have e3 : Ideal.ofBits .f32 0x00000000#32 = 0 := Ideal.ofBits_zero_f32
  rw [exponent_read, e0, e1, e2, e3, two_one, value_eq]
  unfold Ideal.cmp
  by_cases h : Plain (value a r)
  · rw [if_pos h, exponent_log h]
    unfold Scalar.select
    rw [if_pos (by obtain ⟨h0, h1⟩ := h; simp [h0, h1])]
  · rw [if_neg h]
    unfold Scalar.select
    refine (if_neg ?_).trans (by norm_num)
    intro hc
    refine h ⟨?_, ?_⟩
    · by_contra h0; simp [h0] at hc
    · by_contra h1; simp [h1] at hc

theorem scale_eq (a : Vec Ideal S1536x128 .f32) (r : Fin 1536) : scaleArray a (ix2 r 0) = scale a r := by
  show Ideal.pow (Ideal.ofBits .f32 0x40000000#32) (exponentArray a (ix2 r 0)) = _
  rw [two_one, exponent_eq]
  unfold scale scaleOf
  by_cases h : Plain (value a r)
  · rw [if_pos h, if_pos h]
    exact pow_two _
  · rw [if_neg h, if_neg h]
    refine (pow_two 0).trans ?_
    unfold two
    norm_num

theorem inverse_eq (a : Vec Ideal S1536x128 .f32) (r : Fin 1536) : inverseArray a (ix2 r 0) = inverse a r := by
  show Ideal.pow (Ideal.ofBits .f32 0x40000000#32) (-(exponentArray a (ix2 r 0))) = _
  rw [two_one, exponent_eq]
  unfold inverse invOf
  by_cases h : Plain (value a r)
  · rw [if_pos h, if_pos h]
    refine Eq.trans (congrArg _ ?_) (pow_two (-exponent (value a r)))
    rw [← EReal.coe_neg, Int.cast_neg]
  · rw [if_neg h, if_neg h]
    refine Eq.trans (congrArg _ ?_) ((pow_two 0).trans ?_)
    · norm_num
    · unfold two
      norm_num

theorem code_eq (h : Vec Ideal S1536x16384 .f32) (a : Vec Ideal S1536x128 .f32) (r : Fin 1536) (k : Fin 16384) :
    codeArray h a (ix2 r k) = code h a r k := by
  refine congrArg (fun z : EReal => clip (h (ix2 r k) * z)) ?_
  refine (broadcastInDim_apply _ bcast_S1536x1_S1536x16384_0_1 _ (ix2 r k) (ix2 r 0) (fun z => match z with
    | ⟨0, _⟩ => by show r.val = if (1536 : Nat) = 1 then 0 else r.val; rw [if_neg (by decide)]
    | ⟨1, _⟩ => by show 0 = if (1 : Nat) = 1 then 0 else k.val; rw [if_pos rfl])).trans ?_
  exact inverse_eq a r

/-! ## The region -/

/-- The call copies its input to both results; the casts are the identity here. -/
theorem first_id (x : Vec Ideal S1536x16384 .f32) : (out0_1 x : S1536x16384.Idx → EReal) = x := by
  unfold out0_1
  rw [View.canon_unit_zero (by decide), View.ld_unit_zero (by decide)]
  unfold k0_pay1
  exact shapeCast_self x _

theorem second_id (x : Vec Ideal S1536x16384 .f32) : (out0_2 x : S1536x16384.Idx → EReal) = x := by
  unfold out0_2
  rw [View.canon_unit_zero (by decide), View.ld_unit_zero (by decide)]
  unfold k0_pay2 k0_pay1
  exact shapeCast_self x _

variable (m : (ℓ : Loc nD τ sig) → Buf (Elt Ideal) ℓ) (c : Dev nD)

theorem entry_block (X : S1536x16384.Idx → EReal) (hX : Gen.V0 m c (Proc.devRef .tc main_v25) = X) :
    (iblk m c 0 t0_0 : S1536x16384.Idx → EReal) = X := by
  funext j
  refine (congrFun hX _).trans (congrArg X (funext fun a => Fin.ext ?_))
  match a with
  | ⟨0, _⟩ => show 0 * 1536 + 1 * (j 0).val = (j 0).val; omega
  | ⟨1, _⟩ => show 0 * 16384 + 1 * (j 1).val = (j 1).val; omega

theorem whole_first : (cfg0.win 1).WholeAt t0_0 := by decide +kernel
theorem whole_second : (cfg0.win 2).WholeAt t0_0 := by decide +kernel

/-- The region's first result holds what the region finds in its input. -/
theorem first_out (X : S1536x16384.Idx → EReal) (hX : Gen.V0 m c (Proc.devRef .tc main_v25) = X) :
    (Value.reg_main_v26_0 m c : S1536x16384.Idx → EReal) = X := by
  unfold Value.reg_main_v26_0
  refine (dats m 0 c).arrAt_eq_of_after_last 1 t0_0 whole_first X fun j => ?_
  rw [after0_1]
  have h := (first_id (iblk m c 0 t0_0)).trans (entry_block m c X hX)
  generalize out0_1 (iblk m c 0 t0_0) = Y at h ⊢
  subst h
  refine congrArg Y (funext fun a => Fin.ext ?_)
  match a with
  | ⟨0, _⟩ => rfl
  | ⟨1, _⟩ => rfl

/-- And so does its second result. -/
theorem second_out (X : S1536x16384.Idx → EReal) (hX : Gen.V0 m c (Proc.devRef .tc main_v25) = X) :
    (Value.reg_main_v26_1 m c : S1536x16384.Idx → EReal) = X := by
  unfold Value.reg_main_v26_1
  refine (dats m 0 c).arrAt_eq_of_after_last 2 t0_0 whole_second X fun j => ?_
  rw [after0_2]
  have h := (second_id (iblk m c 0 t0_0)).trans (entry_block m c X hX)
  generalize out0_2 (iblk m c 0 t0_0) = Y at h ⊢
  subst h
  refine congrArg Y (funext fun a => Fin.ext ?_)
  match a with
  | ⟨0, _⟩ => rfl
  | ⟨1, _⟩ => rfl

/-- The region's results: the codes, in both formats. -/
theorem codes_out : (Value.reg_main_v26_0 m c : S1536x16384.Idx → EReal)
    = codeArray (m ((c.tc : Thread nD τ).loc main_arg0)) (m ((c.tc : Thread nD τ).loc main_arg1)) :=
  first_out m c _ (entry_codes m c)

theorem widened : (Value.reg_main_v26_1 m c : S1536x16384.Idx → EReal)
    = codeArray (m ((c.tc : Thread nD τ).loc main_arg0)) (m ((c.tc : Thread nD τ).loc main_arg1)) :=
  second_out m c _ (entry_codes m c)

end Cert.Down.Ref

end
-- ==== Proof.DownClaim.lean ====
/-
  Hand-written, untrusted. The down kernel and its reference leave equal results over exact numbers.
-/
module

public import proofs.«01_k».proof.Defs
public import proofs.«01_k».proof.Proof.DownArray
public import proofs.«01_k».proof.Proof.DownRef
public import proofs.«01_k».proof.Proof.DownRefScale

@[expose] public section

set_option maxRecDepth 16384

noncomputable section

namespace Cert.Proof

open Idealize.ShloMosaic Idealize.ShloMosaic.TcCoe Idealize.SL.Sem

/-- The reference's projection of its own codes, scaled, is the specified result. -/
theorem down_result (H : Cert.Down.Hidden) (A : Cert.Down.Maxima) (Q : Cert.Down.Packed) (S : Cert.Down.GroupScales) :
    (Cert.DownRefIdeal.Read.val_main_v64 (F := Ideal) Q S (Cert.Down.Ref.codeArray (F := Ideal) H A) (Cert.Down.Ref.scaleArray (F := Ideal) A) : Cert.DownIdeal.S1536x6144.Idx → EReal)
      = fun i => Cert.Down.result H A Q S (i 0) (i 1) := by
  funext y
  obtain ⟨r, j, rfl⟩ : ∃ (r : Fin 1536) (j : Fin 6144), y = ix2 r j := ⟨y 0, y 1, eq_ix2 y⟩
  refine (Cert.Down.Ref.projection_eq Q S _ _ r j).trans ?_
  refine congrArg₂ (fun a b : EReal => a * b) (Finset.sum_congr rfl fun k _ => congrArg (fun z : EReal => z * _) ?_) ?_
  · exact Cert.Down.Ref.code_eq H A r k
  · exact Cert.Down.Ref.scale_eq A r

theorem down_codes (H : Cert.Down.Hidden) (A : Cert.Down.Maxima) :
    (Cert.Down.Ref.codeArray (F := Ideal) H A : Cert.DownIdeal.S1536x16384.Idx → EReal) = fun i => Cert.Down.code H A (i 0) (i 1) := by
  funext y
  obtain ⟨r, k, rfl⟩ : ∃ (r : Fin 1536) (k : Fin 16384), y = ix2 r k := ⟨y 0, y 1, eq_ix2 y⟩
  exact Cert.Down.Ref.code_eq H A r k

theorem down_scale (A : Cert.Down.Maxima) :
    (Cert.Down.Ref.scaleArray (F := Ideal) A : Cert.DownIdeal.S1536x1.Idx → EReal) = fun i => Cert.Down.scale A (i 0) := by
  funext y
  obtain ⟨r, z, rfl⟩ : ∃ (r : Fin 1536) (z : Fin 1), y = ix2 r z := ⟨y 0, y 1, eq_ix2 y⟩
  obtain rfl : z = 0 := Subsingleton.elim _ _
  exact Cert.Down.Ref.scale_eq A r

theorem down : Cert.algebraic_DownIdeal_DownRefIdeal (hDownIdeal := Cert.DownIdeal.Gen.facts)
    (hDownRefIdeal := Cert.DownRefIdeal.Gen.facts) := by
  intro m g m' g' _ hargs
  refine ⟨fun c => (Cert.DownIdeal.Gen.dats m 0 c).arrAt 4 Cert.DownIdeal.cfg0.N, fun c => (Cert.DownIdeal.Gen.dats m 0 c).arrAt 5 Cert.DownIdeal.cfg0.N,
    fun c => (Cert.DownIdeal.Gen.dats m 0 c).arrAt 6 Cert.DownIdeal.cfg0.N, Cert.DownIdeal.Value.run_blocks (F := Ideal) m g, ?_⟩
  refine (θ_run (Cert.DownRefIdeal.defs (F := Ideal)) _ _).mono (fun r h c => ?_) (Cert.DownRefIdeal.Value.run (F := Ideal) m' g')
  obtain ⟨h4, h5, h6, h0, h1, h2, h3⟩ := h c
  obtain ⟨e0, e1, e2, e3⟩ := hargs c
  have x0 : (m' ((c.tc : Thread Cert.DownRefIdeal.nD Cert.DownRefIdeal.τ).loc Cert.DownRefIdeal.main_arg0) : Cert.Down.Hidden) = Cert.Down.A0 m c := e0
  have x1 : (m' ((c.tc : Thread Cert.DownRefIdeal.nD Cert.DownRefIdeal.τ).loc Cert.DownRefIdeal.main_arg1) : Cert.Down.Maxima) = Cert.Down.A1 m c := e1
  have x2 : (m' ((c.tc : Thread Cert.DownRefIdeal.nD Cert.DownRefIdeal.τ).loc Cert.DownRefIdeal.main_arg2) : Cert.Down.Packed) = Cert.Down.A2 m c := e2
  have x3 : (m' ((c.tc : Thread Cert.DownRefIdeal.nD Cert.DownRefIdeal.τ).loc Cert.DownRefIdeal.main_arg3) : Cert.Down.GroupScales) = Cert.Down.A3 m c := e3
  have y0 : (Cert.DownRefIdeal.Value.reg_main_v26_0 m' c : Cert.DownIdeal.S1536x16384.Idx → EReal) = Cert.Down.Ref.codeArray (F := Ideal) (Cert.Down.A0 m c) (Cert.Down.A1 m c) :=
    (Cert.Down.Ref.codes_out m' c).trans (congrArg₂ (Cert.Down.Ref.codeArray (F := Ideal)) x0 x1)
  have y1 : (Cert.DownRefIdeal.Value.reg_main_v26_1 m' c : Cert.DownIdeal.S1536x16384.Idx → EReal) = Cert.Down.Ref.codeArray (F := Ideal) (Cert.Down.A0 m c) (Cert.Down.A1 m c) :=
    (Cert.Down.Ref.widened m' c).trans (congrArg₂ (Cert.Down.Ref.codeArray (F := Ideal)) x0 x1)
  have y2 : (Cert.Down.Ref.scaleArray (F := Ideal) (m' ((c.tc : Thread Cert.DownRefIdeal.nD Cert.DownRefIdeal.τ).loc Cert.DownRefIdeal.main_arg1)) : Cert.DownIdeal.S1536x1.Idx → EReal)
      = Cert.Down.Ref.scaleArray (F := Ideal) (Cert.Down.A1 m c) := congrArg (Cert.Down.Ref.scaleArray (F := Ideal)) x1
  refine ⟨?_, ?_, ?_, h0, h1, h2, h3⟩
  · refine (show _ = Cert.DownRefIdeal.Read.val_main_v64 (F := Ideal) (m' ((c.tc : Thread Cert.DownRefIdeal.nD Cert.DownRefIdeal.τ).loc Cert.DownRefIdeal.main_arg2))
      (m' ((c.tc : Thread Cert.DownRefIdeal.nD Cert.DownRefIdeal.τ).loc Cert.DownRefIdeal.main_arg3)) (Cert.DownRefIdeal.Value.reg_main_v26_1 m' c)
      (Cert.Down.Ref.scaleArray (F := Ideal) (m' ((c.tc : Thread Cert.DownRefIdeal.nD Cert.DownRefIdeal.τ).loc Cert.DownRefIdeal.main_arg1))) from h4).trans ?_
    refine (congr (congr (congr (congrArg (Cert.DownRefIdeal.Read.val_main_v64 (F := Ideal)) x2) x3) y1) y2).trans ?_
    exact (down_result _ _ _ _).trans (Cert.Down.array_result m c).symm
  · exact (h5.trans y0).trans ((down_codes _ _).trans (Cert.Down.array_codes m c).symm)
  · exact (h6.trans y2).trans ((down_scale _).trans (Cert.Down.array_scale m c).symm)

end Cert.Proof

end
-- ==== Proof.lean ====
/-
  Hand-written, untrusted. The proof of `Cert.Claim` (proof/Defs.lean): the frames are the generated ones but for the down kernel's,
  each value claim is a module of its own.
-/
module

public import proofs.«01_k».proof.Defs
public import proofs.«01_k».proof.Proof.Gen.GateUp.Frame
public import proofs.«01_k».proof.Proof.Gen.QuantX.Frame
public import proofs.«01_k».proof.Proof.Gen.QuantXRef.Frame
public import proofs.«01_k».proof.Proof.DownFrame
public import proofs.«01_k».proof.Proof.GateUpClaim
public import proofs.«01_k».proof.Proof.DownClaim

@[expose] public section

noncomputable section

namespace Cert.Proof

open Idealize.ShloMosaic Idealize.SL.Sem

theorem claim : Cert.Claim :=
  ⟨Cert.GateUp.Gen.facts, Cert.GateUpIdeal.Gen.facts, Cert.GateUpRefIdeal.Gen.facts, Cert.Down.Gen.facts, Cert.DownIdeal.Gen.facts,
    Cert.DownRefIdeal.Gen.facts, Cert.QuantX.Gen.facts, Cert.QuantXRef.Gen.facts,
    fun m g _ => Cert.GateUp.Gen.frame m g, fun m g _ => Cert.GateUpIdeal.Gen.frame m g, fun m g _ => Cert.GateUpRefIdeal.Gen.frame m g,
    fun m g _ => down_frame m g, fun m g _ => Cert.DownIdeal.Gen.frame m g, fun m g _ => Cert.DownRefIdeal.Gen.frame m g,
    fun m g _ => Cert.QuantX.Gen.frame m g, fun m g _ => Cert.QuantXRef.Gen.frame m g, trivial, gate_up, trivial, down⟩

end Cert.Proof

end
